-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x2 : Shape := ⟨3, ![16, 1024, 2]⟩
abbrev S16x1024x4 : Shape := ⟨3, ![16, 1024, 4]⟩
abbrev S2x0x1x2 : Shape := ⟨4, ![2, 0, 1, 2]⟩
abbrev S16x1024x256 : Shape := ⟨3, ![16, 1024, 256]⟩
abbrev S1x2x256 : Shape := ⟨3, ![1, 2, 256]⟩
abbrev S1x1x256 : Shape := ⟨3, ![1, 1, 256]⟩
abbrev S2x256 : Shape := ⟨2, ![2, 256]⟩
abbrev S1x6x256 : Shape := ⟨3, ![1, 6, 256]⟩
abbrev S8x128 : Shape := ⟨2, ![8, 128]⟩
abbrev S256 : Shape := ⟨1, ![256]⟩
abbrev S1x256 : Shape := ⟨2, ![1, 256]⟩
abbrev S_ : Shape := ⟨0, ![]⟩
abbrev S8x256 : Shape := ⟨2, ![8, 256]⟩
abbrev S2x16x1024x3x256 : Shape := ⟨5, ![2, 16, 1024, 3, 256]⟩
abbrev S1x512x2 : Shape := ⟨3, ![1, 512, 2]⟩
abbrev S1x512x4 : Shape := ⟨3, ![1, 512, 4]⟩
abbrev S1x512x256 : Shape := ⟨3, ![1, 512, 256]⟩
abbrev S4x2x512x3x256 : Shape := ⟨5, ![4, 2, 512, 3, 256]⟩
abbrev S4 : Shape := ⟨1, ![4]⟩
abbrev S1 : Shape := ⟨1, ![1]⟩
abbrev S2x1x512x3x256 : Shape := ⟨5, ![2, 1, 512, 3, 256]⟩
abbrev S2x512x3x256 : Shape := ⟨4, ![2, 512, 3, 256]⟩
abbrev S1x2x512x3x256 : Shape := ⟨5, ![1, 2, 512, 3, 256]⟩
abbrev S1x128 : Shape := ⟨2, ![1, 128]⟩
abbrev S128 : Shape := ⟨1, ![128]⟩
abbrev S512x256 : Shape := ⟨2, ![512, 256]⟩
abbrev S1x512x1 : Shape := ⟨3, ![1, 512, 1]⟩
abbrev S512x1 : Shape := ⟨2, ![512, 1]⟩
abbrev S512x128 : Shape := ⟨2, ![512, 128]⟩
abbrev S1x1x512x1x256 : Shape := ⟨5, ![1, 1, 512, 1, 256]⟩
abbrev S32x1024x3x256 : Shape := ⟨4, ![32, 1024, 3, 256]⟩

abbrev nBuf : Space → Nat
  | .hbm => 45
  | .vmem => 9
  | .smem => 0
  | _ => 0

abbrev bufTy : (tb : Table) → Fin (tcTables nBuf tb) → BufTy
  | .hbm, ⟨0, _⟩ => ⟨S16x1024x2, .f32⟩
  | .hbm, ⟨1, _⟩ => ⟨S16x1024x4, .f32⟩
  | .hbm, ⟨2, _⟩ => ⟨S2x0x1x2, .f32⟩
  | .hbm, ⟨3, _⟩ => ⟨S16x1024x256, .f32⟩
  | .hbm, ⟨4, _⟩ => ⟨S1x2x256, .f32⟩
  | .hbm, ⟨5, _⟩ => ⟨S1x1x256, .f32⟩
  | .hbm, ⟨6, _⟩ => ⟨S1x1x256, .f32⟩
  | .hbm, ⟨7, _⟩ => ⟨S2x256, .f32⟩
  | .hbm, ⟨8, _⟩ => ⟨S1x6x256, .f32⟩
  | .hbm, ⟨9, _⟩ => ⟨S8x128, .f32⟩
  | .hbm, ⟨10, _⟩ => ⟨S256, .f32⟩
  | .hbm, ⟨11, _⟩ => ⟨S1x256, .f32⟩
  | .hbm, ⟨12, _⟩ => ⟨S256, .f32⟩
  | .hbm, ⟨13, _⟩ => ⟨S256, .f32⟩
  | .hbm, ⟨14, _⟩ => ⟨S1x1x256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S1x1x256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S1x1x256, .f32⟩
  | .hbm, ⟨23, _⟩ => ⟨S256, .f32⟩
  | .hbm, ⟨24, _⟩ => ⟨S1x1x256, .f32⟩
  | .hbm, ⟨25, _⟩ => ⟨S256, .f32⟩
  | .hbm, ⟨26, _⟩ => ⟨S1x1x256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S8x256, .f32⟩
  | .hbm, ⟨41, _⟩ => ⟨S2x16x1024x3x256, .f32⟩
  | .hbm, ⟨42, _⟩ => ⟨S2x16x1024x3x256, .f32⟩
  | .hbm, ⟨43, _⟩ => ⟨S32x1024x3x256, .f32⟩
  | .hbm, ⟨44, _⟩ => ⟨S32x1024x3x256, .f32⟩
  | .local _ .vmem, ⟨0, _⟩ => ⟨S1x512x2, .f32⟩
  | .local _ .vmem, ⟨1, _⟩ => ⟨S1x512x2, .f32⟩
  | .local _ .vmem, ⟨2, _⟩ => ⟨S1x512x4, .f32⟩
  | .local _ .vmem, ⟨3, _⟩ => ⟨S1x512x4, .f32⟩
  | .local _ .vmem, ⟨4, _⟩ => ⟨S1x512x256, .f32⟩
  | .local _ .vmem, ⟨5, _⟩ => ⟨S1x512x256, .f32⟩
  | .local _ .vmem, ⟨6, _⟩ => ⟨S8x128, .f32⟩
  | .local _ .vmem, ⟨7, _⟩ => ⟨S8x256, .f32⟩
  | .local _ .vmem, ⟨8, _⟩ => ⟨S4x2x512x3x256, .f32⟩
  | _, _ => ⟨S16x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c8_i32 : BitVec 32 := 8#32
  let v3 : BitVec 1 := Scalar.cmpi .sge v1 c8_i32
  let v4 : BitVec 32 := Scalar.extui v3
  let c0_i32 : BitVec 32 := 0#32
  let v5 : BitVec 1 := Scalar.cmpi .ne v4 c0_i32
  v5

def k0_off1 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  ![v2.toNat]
def k0_off2 (i : grid0.Coords) : Fin 5 → Nat :=
  let c0_i32_76 : BitVec 32 := 0#32
  let arg0 : BitVec 32 := BitVec.ofNat 32 (i 0).val
  let arg1 : BitVec 32 := BitVec.ofNat 32 (i 1).val
  let c512_i32_75 : BitVec 32 := 512#32
  let v267 : BitVec 32 := Scalar.muli arg1 c512_i32_75
  let c0_i32_77 : BitVec 32 := 0#32
  let c0_i32_78 : BitVec 32 := 0#32
  ![0, arg0.toNat, v267.toNat, 0, 0]
def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32_0 : BitVec 32 := 4#32
  let v6 : BitVec 1 := Scalar.cmpi .sge v1 c4_i32_0
  let v7 : BitVec 32 := Scalar.extui v6
  let c0_i32_1 : BitVec 32 := 0#32
  let v8 : BitVec 1 := Scalar.cmpi .ne v7 c0_i32_1
  v8

def k0_off3 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  ![v2.toNat]
def k0_off4 (i : grid0.Coords) : Fin 5 → Nat :=
  let c0_i32_75 : BitVec 32 := 0#32
  let arg0 : BitVec 32 := BitVec.ofNat 32 (i 0).val
  let arg1 : BitVec 32 := BitVec.ofNat 32 (i 1).val
  let c512_i32_74 : BitVec 32 := 512#32
  let v266 : BitVec 32 := Scalar.muli arg1 c512_i32_74
  let c0_i32_76 : BitVec 32 := 0#32
  let c0_i32_77 : BitVec 32 := 0#32
  ![0, arg0.toNat, v266.toNat, 0, 0]
def k0_off5 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  let c0_i32_78 : BitVec 32 := 0#32
  let c0_i32_79 : BitVec 32 := 0#32
  let c0_i32_80 : BitVec 32 := 0#32
  let c0_i32_81 : BitVec 32 := 0#32
  ![v2.toNat, 0, 0, 0, 0]
def k0_off6 (i : grid0.Coords) : Fin 5 → Nat :=
  let c0_i32_88 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32_82 : BitVec 32 := 4#32
  let v273 : BitVec 32 := Scalar.subi v1 c4_i32_82
  let c2_i32_83 : BitVec 32 := 2#32
  let v274 : BitVec 32 := Scalar.divsi v273 c2_i32_83
  let c4_i32_84 : BitVec 32 := 4#32
  let v275 : BitVec 32 := Scalar.subi v1 c4_i32_84
  let c2_i32_85 : BitVec 32 := 2#32
  let v276 : BitVec 32 := Scalar.remsi v275 c2_i32_85
  let c512_i32_87 : BitVec 32 := 512#32
  let v278 : BitVec 32 := Scalar.muli v276 c512_i32_87
  let c0_i32_89 : BitVec 32 := 0#32
  let c0_i32_90 : BitVec 32 := 0#32
  ![0, v274.toNat, v278.toNat, 0, 0]
def k0_off7 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  let v90 : Index := Scalar.indexCast v2
  let c0_20 : Index := 0#32
  let c0_21 : Index := 0#32
  let c0_22 : Index := 0#32
  let c0_23 : Index := 0#32
  ![v90.toNat, 0, 0, 0, 0]
def k0_off8 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  let v98 : Index := Scalar.indexCast v2
  let c0_26 : Index := 0#32
  let c0_27 : Index := 0#32
  let c1_28 : Index := 1#32
  let c0_29 : Index := 0#32
  ![v98.toNat, 0, 0, 1, 0]
def k0_off9 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  let v106 : Index := Scalar.indexCast v2
  let c0_32 : Index := 0#32
  let c0_33 : Index := 0#32
  let c2_34 : Index := 2#32
  let c0_35 : Index := 0#32
  ![v106.toNat, 0, 0, 2, 0]
def k0_off10 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  let v179 : Index := Scalar.indexCast v2
  let c1_50 : Index := 1#32
  let c0_51 : Index := 0#32
  let c0_52 : Index := 0#32
  let c0_53 : Index := 0#32
  ![v179.toNat, 1, 0, 0, 0]
def k0_off11 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  let v244 : Index := Scalar.indexCast v2
  let c1_56 : Index := 1#32
  let c0_57 : Index := 0#32
  let c1_58 : Index := 1#32
  let c0_59 : Index := 0#32
  ![v244.toNat, 1, 0, 1, 0]
def k0_off12 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  let v252 : Index := Scalar.indexCast v2
  let c1_62 : Index := 1#32
  let c0_63 : Index := 0#32
  let c2_64 : Index := 2#32
  let c0_65 : Index := 0#32
  ![v252.toNat, 1, 0, 2, 0]
def k0_off13 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  ![v2.toNat]
def k0_off14 (i : grid0.Coords) : Fin 5 → Nat :=
  let c0_i32_66 : BitVec 32 := 0#32
  let arg0 : BitVec 32 := BitVec.ofNat 32 (i 0).val
  let arg1 : BitVec 32 := BitVec.ofNat 32 (i 1).val
  let c512_i32 : BitVec 32 := 512#32
  let v256 : BitVec 32 := Scalar.muli arg1 c512_i32
  let c0_i32_67 : BitVec 32 := 0#32
  let c0_i32_68 : BitVec 32 := 0#32
  ![0, arg0.toNat, v256.toNat, 0, 0]
def k0_off15 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c4_i32 : BitVec 32 := 4#32
  let v2 : BitVec 32 := Scalar.remsi v1 c4_i32
  let c0_i32_69 : BitVec 32 := 0#32
  let c0_i32_70 : BitVec 32 := 0#32
  let c0_i32_71 : BitVec 32 := 0#32
  let c0_i32_72 : BitVec 32 := 0#32
  ![v2.toNat, 0, 0, 0, 0]
def k0_cond3 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c31_i32 : BitVec 32 := 31#32
  let v263 : BitVec 1 := Scalar.cmpi .eq v1 c31_i32
  let v264 : BitVec 32 := Scalar.extui v263
  let c0_i32_73 : BitVec 32 := 0#32
  let v265 : BitVec 1 := Scalar.cmpi .ne v264 c0_i32_73
  v265

def k0_off16 (i : grid0.Coords) : Fin 5 → Nat :=
  let c0_i32_77 : BitVec 32 := 0#32
  let arg0 : BitVec 32 := BitVec.ofNat 32 (i 0).val
  let arg1 : BitVec 32 := BitVec.ofNat 32 (i 1).val
  let c512_i32_75 : BitVec 32 := 512#32
  let v267 : BitVec 32 := Scalar.muli arg1 c512_i32_75
  let c0_i32_78 : BitVec 32 := 0#32
  let c0_i32_79 : BitVec 32 := 0#32
  ![0, arg0.toNat, v267.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S16x1024x2 : Shape := ⟨3, ![16, 1024, 2]⟩
abbrev S16x1024x4 : Shape := ⟨3, ![16, 1024, 4]⟩
abbrev S2x0x1x2 : Shape := ⟨4, ![2, 0, 1, 2]⟩
abbrev S16x1024x256 : Shape := ⟨3, ![16, 1024, 256]⟩
abbrev S1x2x256 : Shape := ⟨3, ![1, 2, 256]⟩
abbrev S1x1x256 : Shape := ⟨3, ![1, 1, 256]⟩
abbrev S2x256 : Shape := ⟨2, ![2, 256]⟩
abbrev S1x6x256 : Shape := ⟨3, ![1, 6, 256]⟩
abbrev S128 : Shape := ⟨1, ![128]⟩
abbrev S16x1024x1x2 : Shape := ⟨4, ![16, 1024, 1, 2]⟩
abbrev S16x1024x1x1 : Shape := ⟨4, ![16, 1024, 1, 1]⟩
abbrev S16x1024x1 : Shape := ⟨3, ![16, 1024, 1]⟩
abbrev S1x1x1x128 : Shape := ⟨4, ![1, 1, 1, 128]⟩
abbrev S16x1024x1x128 : Shape := ⟨4, ![16, 1024, 1, 128]⟩
abbrev S16x1024x1x64 : Shape := ⟨4, ![16, 1024, 1, 64]⟩
abbrev S_ : Shape := ⟨0, ![]⟩
abbrev S16x1024x1x64x1 : Shape := ⟨5, ![16, 1024, 1, 64, 1]⟩
abbrev S16x1024x1x64x2 : Shape := ⟨5, ![16, 1024, 1, 64, 2]⟩
abbrev S16x1024x1x256 : Shape := ⟨4, ![16, 1024, 1, 256]⟩
abbrev S1x256 : Shape := ⟨2, ![1, 256]⟩
abbrev S256 : Shape := ⟨1, ![256]⟩
abbrev S1x1x1x256 : Shape := ⟨4, ![1, 1, 1, 256]⟩
abbrev S16x1024x2x256 : Shape := ⟨4, ![16, 1024, 2, 256]⟩
abbrev S16x1024x3x256 : Shape := ⟨4, ![16, 1024, 3, 256]⟩
abbrev S16x1024x2x2 : Shape := ⟨4, ![16, 1024, 2, 2]⟩
abbrev S16x1024x2x1 : Shape := ⟨4, ![16, 1024, 2, 1]⟩
abbrev S16x1024x2x128 : Shape := ⟨4, ![16, 1024, 2, 128]⟩
abbrev S16x1024x2x64 : Shape := ⟨4, ![16, 1024, 2, 64]⟩
abbrev S16x1024x2x64x1 : Shape := ⟨5, ![16, 1024, 2, 64, 1]⟩
abbrev S16x1024x2x64x2 : Shape := ⟨5, ![16, 1024, 2, 64, 2]⟩
abbrev S1x1x2x256 : Shape := ⟨4, ![1, 1, 2, 256]⟩
abbrev S32x1024x3x256 : Shape := ⟨4, ![32, 1024, 3, 256]⟩

abbrev nBuf : Space → Nat
  | .hbm => 190
  | .vmem => 0
  | .smem => 0
  | _ => 0

abbrev hbmTy0_0 (i : Nat) : BufTy := match i % 128 with
  | 0 => ⟨S16x1024x2, .f32⟩
  | 1 => ⟨S16x1024x4, .f32⟩
  | 2 => ⟨S2x0x1x2, .f32⟩
  | 3 => ⟨S16x1024x256, .f32⟩
  | 4 => ⟨S1x2x256, .f32⟩
  | 5 => ⟨S1x1x256, .f32⟩
  | 6 => ⟨S1x1x256, .f32⟩
  | 7 => ⟨S2x256, .f32⟩
  | 8 => ⟨S1x6x256, .f32⟩
  | 9 => ⟨S128, .f32⟩
  | 10 => ⟨S128, .f32⟩
  | 11 => ⟨S128, .f32⟩
  | 12 => ⟨S128, .f32⟩
  | 13 => ⟨S16x1024x1x2, .f32⟩
  | 14 => ⟨S16x1024x1x1, .f32⟩
  | 15 => ⟨S16x1024x1, .f32⟩
  | 16 => ⟨S16x1024x1x1, .f32⟩
  | 17 => ⟨S1x1x1x128, .f32⟩
  | 18 => ⟨S16x1024x1x128, .f32⟩
  | 19 => ⟨S16x1024x1x128, .f32⟩
  | 20 => ⟨S16x1024x1x128, .f32⟩
  | 21 => ⟨S16x1024x1x1, .f32⟩
  | 22 => ⟨S16x1024x1, .f32⟩
  | 23 => ⟨S16x1024x1x1, .f32⟩
  | 24 => ⟨S1x1x1x128, .f32⟩
  | 25 => ⟨S16x1024x1x128, .f32⟩
  | 26 => ⟨S16x1024x1x128, .f32⟩
  | 27 => ⟨S16x1024x1x128, .f32⟩
  | 28 => ⟨S16x1024x1x64, .f32⟩
  | 29 => ⟨S16x1024x1x64, .f32⟩
  | 30 => ⟨S_, .f32⟩
  | 31 => ⟨S16x1024x1x64, .f32⟩
  | 32 => ⟨S16x1024x1x64, .f32⟩
  | 33 => ⟨S_, .f32⟩
  | 34 => ⟨S16x1024x1x64, .f32⟩
  | 35 => ⟨S16x1024x1x64, .f32⟩
  | 36 => ⟨S16x1024x1x64, .f32⟩
  | 37 => ⟨S_, .f32⟩
  | 38 => ⟨S16x1024x1x64, .f32⟩
  | 39 => ⟨S16x1024x1x64, .f32⟩
  | 40 => ⟨S16x1024x1x64, .f32⟩
  | 41 => ⟨S16x1024x1x64, .f32⟩
  | 42 => ⟨S16x1024x1x64, .f32⟩
  | 43 => ⟨S_, .f32⟩
  | 44 => ⟨S16x1024x1x64, .f32⟩
  | 45 => ⟨S16x1024x1x64, .f32⟩
  | 46 => ⟨S_, .f32⟩
  | 47 => ⟨S16x1024x1x64, .f32⟩
  | 48 => ⟨S16x1024x1x64, .f32⟩
  | 49 => ⟨S16x1024x1x64, .f32⟩
  | 50 => ⟨S_, .f32⟩
  | 51 => ⟨S16x1024x1x64, .f32⟩
  | 52 => ⟨S16x1024x1x64, .f32⟩
  | 53 => ⟨S16x1024x1x64x1, .f32⟩
  | 54 => ⟨S16x1024x1x64x1, .f32⟩
  | 55 => ⟨S16x1024x1x64x2, .f32⟩
  | 56 => ⟨S16x1024x1x128, .f32⟩
  | 57 => ⟨S16x1024x1x64, .f32⟩
  | 58 => ⟨S16x1024x1x64, .f32⟩
  | 59 => ⟨S_, .f32⟩
  | 60 => ⟨S16x1024x1x64, .f32⟩
  | 61 => ⟨S16x1024x1x64, .f32⟩
  | 62 => ⟨S_, .f32⟩
  | 63 => ⟨S16x1024x1x64, .f32⟩
  | 64 => ⟨S16x1024x1x64, .f32⟩
  | 65 => ⟨S16x1024x1x64, .f32⟩
  | 66 => ⟨S_, .f32⟩
  | 67 => ⟨S16x1024x1x64, .f32⟩
  | 68 => ⟨S16x1024x1x64, .f32⟩
  | 69 => ⟨S16x1024x1x64, .f32⟩
  | 70 => ⟨S16x1024x1x64, .f32⟩
  | 71 => ⟨S16x1024x1x64, .f32⟩
  | 72 => ⟨S_, .f32⟩
  | 73 => ⟨S16x1024x1x64, .f32⟩
  | 74 => ⟨S16x1024x1x64, .f32⟩
  | 75 => ⟨S_, .f32⟩
  | 76 => ⟨S16x1024x1x64, .f32⟩
  | 77 => ⟨S16x1024x1x64, .f32⟩
  | 78 => ⟨S16x1024x1x64, .f32⟩
  | 79 => ⟨S_, .f32⟩
  | 80 => ⟨S16x1024x1x64, .f32⟩
  | 81 => ⟨S16x1024x1x64, .f32⟩
  | 82 => ⟨S16x1024x1x64x1, .f32⟩
  | 83 => ⟨S16x1024x1x64x1, .f32⟩
  | 84 => ⟨S16x1024x1x64x2, .f32⟩
  | 85 => ⟨S16x1024x1x128, .f32⟩
  | 86 => ⟨S16x1024x1x256, .f32⟩
  | 87 => ⟨S1x256, .f32⟩
  | 88 => ⟨S256, .f32⟩
  | 89 => ⟨S16x1024x1x256, .f32⟩
  | 90 => ⟨S1x1x1x256, .f32⟩
  | 91 => ⟨S16x1024x1x256, .f32⟩
  | 92 => ⟨S16x1024x1x256, .f32⟩
  | 93 => ⟨S16x1024x1x256, .f32⟩
  | 94 => ⟨S1x1x1x256, .f32⟩
  | 95 => ⟨S16x1024x1x256, .f32⟩
  | 96 => ⟨S16x1024x1x256, .f32⟩
  | 97 => ⟨S1x2x256, .f32⟩
  | 98 => ⟨S2x256, .f32⟩
  | 99 => ⟨S16x1024x2x256, .f32⟩
  | 100 => ⟨S16x1024x3x256, .f32⟩
  | 101 => ⟨S16x1024x2x2, .f32⟩
  | 102 => ⟨S16x1024x2x1, .f32⟩
  | 103 => ⟨S16x1024x2, .f32⟩
  | 104 => ⟨S16x1024x2x1, .f32⟩
  | 105 => ⟨S1x1x1x128, .f32⟩
  | 106 => ⟨S16x1024x2x128, .f32⟩
  | 107 => ⟨S16x1024x2x128, .f32⟩
  | 108 => ⟨S16x1024x2x128, .f32⟩
  | 109 => ⟨S16x1024x2x1, .f32⟩
  | 110 => ⟨S16x1024x2, .f32⟩
  | 111 => ⟨S16x1024x2x1, .f32⟩
  | 112 => ⟨S1x1x1x128, .f32⟩
  | 113 => ⟨S16x1024x2x128, .f32⟩
  | 114 => ⟨S16x1024x2x128, .f32⟩
  | 115 => ⟨S16x1024x2x128, .f32⟩
  | 116 => ⟨S16x1024x2x64, .f32⟩
  | 117 => ⟨S16x1024x2x64, .f32⟩
  | 118 => ⟨S_, .f32⟩
  | 119 => ⟨S16x1024x2x64, .f32⟩
  | 120 => ⟨S16x1024x2x64, .f32⟩
  | 121 => ⟨S_, .f32⟩
  | 122 => ⟨S16x1024x2x64, .f32⟩
  | 123 => ⟨S16x1024x2x64, .f32⟩
  | 124 => ⟨S16x1024x2x64, .f32⟩
  | 125 => ⟨S_, .f32⟩
  | 126 => ⟨S16x1024x2x64, .f32⟩
  | 127 => ⟨S16x1024x2x64, .f32⟩
  | _ => ⟨S16x1024x2, .f32⟩

abbrev hbmTy0_1 (i : Nat) : BufTy := match i % 128 with
  | 0 => ⟨S16x1024x2x64, .f32⟩
  | 1 => ⟨S16x1024x2x64, .f32⟩
  | 2 => ⟨S16x1024x2x64, .f32⟩
  | 3 => ⟨S_, .f32⟩
  | 4 => ⟨S16x1024x2x64, .f32⟩
  | 5 => ⟨S16x1024x2x64, .f32⟩
  | 6 => ⟨S_, .f32⟩
  | 7 => ⟨S16x1024x2x64, .f32⟩
  | 8 => ⟨S16x1024x2x64, .f32⟩
  | 9 => ⟨S16x1024x2x64, .f32⟩
  | 10 => ⟨S_, .f32⟩
  | 11 => ⟨S16x1024x2x64, .f32⟩
  | 12 => ⟨S16x1024x2x64, .f32⟩
  | 13 => ⟨S16x1024x2x64x1, .f32⟩
  | 14 => ⟨S16x1024x2x64x1, .f32⟩
  | 15 => ⟨S16x1024x2x64x2, .f32⟩
  | 16 => ⟨S16x1024x2x128, .f32⟩
  | 17 => ⟨S16x1024x2x64, .f32⟩
  | 18 => ⟨S16x1024x2x64, .f32⟩
  | 19 => ⟨S_, .f32⟩
  | 20 => ⟨S16x1024x2x64, .f32⟩
  | 21 => ⟨S16x1024x2x64, .f32⟩
  | 22 => ⟨S_, .f32⟩
  | 23 => ⟨S16x1024x2x64, .f32⟩
  | 24 => ⟨S16x1024x2x64, .f32⟩
  | 25 => ⟨S16x1024x2x64, .f32⟩
  | 26 => ⟨S_, .f32⟩
  | 27 => ⟨S16x1024x2x64, .f32⟩
  | 28 => ⟨S16x1024x2x64, .f32⟩
  | 29 => ⟨S16x1024x2x64, .f32⟩
  | 30 => ⟨S16x1024x2x64, .f32⟩
  | 31 => ⟨S16x1024x2x64, .f32⟩
  | 32 => ⟨S_, .f32⟩
  | 33 => ⟨S16x1024x2x64, .f32⟩
  | 34 => ⟨S16x1024x2x64, .f32⟩
  | 35 => ⟨S_, .f32⟩
  | 36 => ⟨S16x1024x2x64, .f32⟩
  | 37 => ⟨S16x1024x2x64, .f32⟩
  | 38 => ⟨S16x1024x2x64, .f32⟩
  | 39 => ⟨S_, .f32⟩
  | 40 => ⟨S16x1024x2x64, .f32⟩
  | 41 => ⟨S16x1024x2x64, .f32⟩
  | 42 => ⟨S16x1024x2x64x1, .f32⟩
  | 43 => ⟨S16x1024x2x64x1, .f32⟩
  | 44 => ⟨S16x1024x2x64x2, .f32⟩
  | 45 => ⟨S16x1024x2x128, .f32⟩
  | 46 => ⟨S16x1024x2x256, .f32⟩
  | 47 => ⟨S2x256, .f32⟩
  | 48 => ⟨S1x1x2x256, .f32⟩
  | 49 => ⟨S16x1024x2x256, .f32⟩
  | 50 => ⟨S16x1024x2x256, .f32⟩
  | 51 => ⟨S1x256, .f32⟩
  | 52 => ⟨S1x1x1x256, .f32⟩
  | 53 => ⟨S16x1024x2x256, .f32⟩
  | 54 => ⟨S16x1024x2x256, .f32⟩
  | 55 => ⟨S16x1024x2x256, .f32⟩
  | 56 => ⟨S16x1024x2x256, .f32⟩
  | 57 => ⟨S1x1x256, .f32⟩
  | 58 => ⟨S1x256, .f32⟩
  | 59 => ⟨S16x1024x1x256, .f32⟩
  | 60 => ⟨S16x1024x3x256, .f32⟩
  | 61 => ⟨S32x1024x3x256, .f32⟩
  | _ => ⟨S16x1024x2, .f32⟩

abbrev hbmTy (i : Nat) : BufTy := match i / 128 with
  | 0 => hbmTy0_0 i
  | 1 => hbmTy0_1 i
  | _ => ⟨S16x1024x2, .f32⟩

abbrev bufTy : (tb : Table) → Fin (tcTables nBuf tb) → BufTy
  | .hbm, ⟨i, _⟩ => hbmTy i
  | _, _ => ⟨S16x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_15 : Ref sig .tc := ⟨.hbm, 118, rfl⟩
abbrev main_v93 : Ref sig .tc := ⟨.hbm, 119, rfl⟩
abbrev main_v94 : Ref sig .tc := ⟨.hbm, 120, rfl⟩
abbrev main_cst_16 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_17 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_18 : Ref sig .tc := ⟨.hbm, 131, rfl⟩
abbrev main_v103 : Ref sig .tc := ⟨.hbm, 132, rfl⟩
abbrev main_v104 : Ref sig .tc := ⟨.hbm, 133, rfl⟩
abbrev main_cst_19 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_20 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_21 : Ref sig .tc := ⟨.hbm, 147, rfl⟩
abbrev main_v116 : Ref sig .tc := ⟨.hbm, 148, rfl⟩
abbrev main_v117 : Ref sig .tc := ⟨.hbm, 149, rfl⟩
abbrev main_cst_22 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_23 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_24 : Ref sig .tc := ⟨.hbm, 160, rfl⟩
abbrev main_v126 : Ref sig .tc := ⟨.hbm, 161, rfl⟩
abbrev main_v127 : Ref sig .tc := ⟨.hbm, 162, rfl⟩
abbrev main_cst_25 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_26 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩

abbrev nD : Nat := 1
abbrev τ : Topo := Topo.v7x

variable {F : FTy → Type} [FloatOps F]
-- ==== Proof.INames.lean ====
/-
  The names the certificate uses for what the kernel moves: step `u`'s block of either result, slot `s` of the
  staging ring, and the two DMA semaphores of slot `s`; and the equations by which the body's own slices are these.
-/
module

public import proofs.«01_k».proof.Proof.Body
public import proofs.«01_k».proof.Proof.Gen.KernelIdeal.Frame
public import proofs.«01_k».proof.Proof.Gen.KernelIdeal.Skeleton
public import Idealize.ShloMosaic.Lib.Pipeline.FrameSuffixV
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The names -/

/-- The first result, whole. -/
abbrev o1M : Memref sig .tc .hbm S2x16x1024x3x256 .f32 := Memref.whole main_v29_0
/-- The second result, whole. -/
abbrev o2M : Memref sig .tc .hbm S2x16x1024x3x256 .f32 := Memref.whole main_v29_1
/-- The staging ring, whole. -/
abbrev ringM : Memref sig .tc .vmem S4x2x512x3x256 .f32 := Memref.whole cc0_scratch0

/-- Where step `u`'s block starts in a result. -/
abbrev blkOff (u : Fin 32) : Fin 5 → Nat := ![0, u.val / 2, u.val % 2 * 512, 0, 0]
theorem blkOff_inb (u : Fin 32) : ∀ a, blkOff u a + S2x1x512x3x256.size a ≤ S2x16x1024x3x256.size a := by
  have := u.isLt; intro a; fin_cases a
  · show 0 + 2 ≤ 2; omega
  · show u.val / 2 + 1 ≤ 16; omega
  · show u.val % 2 * 512 + 512 ≤ 1024; omega
  · show 0 + 3 ≤ 3; omega
  · show 0 + 256 ≤ 256; omega
/-- Where slot `s` starts in the ring. -/
abbrev slotOff (s : Fin 4) : Fin 5 → Nat := ![s.val, 0, 0, 0, 0]
theorem slotOff_inb (s : Fin 4) : ∀ a, slotOff s a + S1x2x512x3x256.size a ≤ S4x2x512x3x256.size a := by
  have := s.isLt; intro a; fin_cases a
  · show s.val + 1 ≤ 4; omega
  · show 0 + 2 ≤ 2; omega
  · show 0 + 512 ≤ 512; omega
  · show 0 + 3 ≤ 3; omega
  · show 0 + 256 ≤ 256; omega
/-- Where slot `s`'s semaphore is in an array of four. -/
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Step `u`'s block of the first result. -/
def blk1 (u : Fin 32) : Memref sig .tc .hbm S2x512x3x256 .f32 :=
  (o1M.slice (Rect.unit (s := S2x16x1024x3x256) (blkOff u) S2x1x512x3x256.size (blkOff_inb u)) (fun _ => rfl)).squeeze S2x512x3x256 squeezes_S2x1x512x3x256_S2x512x3x256
/-- Step `u`'s block of the second result. -/
def blk2 (u : Fin 32) : Memref sig .tc .hbm S2x512x3x256 .f32 :=
  (o2M.slice (Rect.unit (s := S2x16x1024x3x256) (blkOff u) S2x1x512x3x256.size (blkOff_inb u)) (fun _ => rfl)).squeeze S2x512x3x256 squeezes_S2x1x512x3x256_S2x512x3x256
/-- Slot `s` of the ring. -/
def rslot (s : Fin 4) : Memref sig .tc .vmem S2x512x3x256 .f32 :=
  (ringM.slice (Rect.unit (s := S4x2x512x3x256) (slotOff s) S1x2x512x3x256.size (slotOff_inb s)) (fun _ => rfl)).squeeze S2x512x3x256 squeezes_S1x2x512x3x256_S2x512x3x256
/-- The semaphore of the copies out of slot `s`. -/
def smV (s : Fin 4) : DmaSems sig S_ := (cc0_scratch1.slice (Rect.unit (s := S4) (semOff s) S1.size (semOff_inb s))).squeeze S_ squeezes_S1_S_
/-- The semaphore of the copies of what came out of slot `s` to the second result. -/
def smH (s : Fin 4) : DmaSems sig S_ := (cc0_scratch2.slice (Rect.unit (s := S4) (semOff s) S1.size (semOff_inb s))).squeeze S_ squeezes_S1_S_

instance (u : Fin 32) : ClosedOff (blkOff u) := ⟨blkOff u, rfl⟩
instance (s : Fin 4) : ClosedOff (slotOff s) := ⟨slotOff s, rfl⟩

/-! ## The body's offsets in closed form -/

theorem off1_eq : ∀ t : Fin grid0.N, k0_off1 (grid0.coords t) = semOff (Ring.sl 4 t.val) := by decide +kernel
theorem off2_eq : ∀ t : Fin grid0.N, k0_off2 (grid0.coords t) = blkOff (Ring.bk 32 t.val) := by decide +kernel
theorem off3_eq : ∀ t : Fin grid0.N, k0_off3 (grid0.coords t) = semOff (Ring.sl 4 t.val) := by decide +kernel
theorem off4_eq : ∀ t : Fin grid0.N, k0_off4 (grid0.coords t) = blkOff (Ring.bk 32 t.val) := by decide +kernel
theorem off5_eq : ∀ t : Fin grid0.N, k0_off5 (grid0.coords t) = slotOff (Ring.sl 4 t.val) := by decide +kernel
theorem off6_eq : ∀ t : Fin grid0.N, 4 ≤ t.val → k0_off6 (grid0.coords t) = blkOff (Ring.bk 32 (t.val - 4)) := by decide +kernel
theorem off7_eq : ∀ t : Fin grid0.N, k0_off7 (grid0.coords t) = ![(Ring.sl 4 t.val).val, 0, 0, 0, 0] := by decide +kernel
theorem off8_eq : ∀ t : Fin grid0.N, k0_off8 (grid0.coords t) = ![(Ring.sl 4 t.val).val, 0, 0, 1, 0] := by decide +kernel
theorem off9_eq : ∀ t : Fin grid0.N, k0_off9 (grid0.coords t) = ![(Ring.sl 4 t.val).val, 0, 0, 2, 0] := by decide +kernel
theorem off10_eq : ∀ t : Fin grid0.N, k0_off10 (grid0.coords t) = ![(Ring.sl 4 t.val).val, 1, 0, 0, 0] := by decide +kernel
theorem off11_eq : ∀ t : Fin grid0.N, k0_off11 (grid0.coords t) = ![(Ring.sl 4 t.val).val, 1, 0, 1, 0] := by decide +kernel
theorem off12_eq : ∀ t : Fin grid0.N, k0_off12 (grid0.coords t) = ![(Ring.sl 4 t.val).val, 1, 0, 2, 0] := by decide +kernel
theorem off13_eq : ∀ t : Fin grid0.N, k0_off13 (grid0.coords t) = semOff (Ring.sl 4 t.val) := by decide +kernel
theorem off14_eq : ∀ t : Fin grid0.N, k0_off14 (grid0.coords t) = blkOff (Ring.bk 32 t.val) := by decide +kernel
theorem off15_eq : ∀ t : Fin grid0.N, k0_off15 (grid0.coords t) = slotOff (Ring.sl 4 t.val) := by decide +kernel
theorem off16_eq : ∀ t : Fin grid0.N, k0_off16 (grid0.coords t) = blkOff (Ring.bk 32 t.val) := by decide +kernel

instance (t : Fin grid0.N) : ClosedOff (k0_off7 (grid0.coords t)) := ⟨_, off7_eq t⟩
instance (t : Fin grid0.N) : ClosedOff (k0_off8 (grid0.coords t)) := ⟨_, off8_eq t⟩
instance (t : Fin grid0.N) : ClosedOff (k0_off9 (grid0.coords t)) := ⟨_, off9_eq t⟩
instance (t : Fin grid0.N) : ClosedOff (k0_off10 (grid0.coords t)) := ⟨_, off10_eq t⟩
instance (t : Fin grid0.N) : ClosedOff (k0_off11 (grid0.coords t)) := ⟨_, off11_eq t⟩
instance (t : Fin grid0.N) : ClosedOff (k0_off12 (grid0.coords t)) := ⟨_, off12_eq t⟩

/-- The steps at which the body waits for an earlier copy to the second result, -/
theorem cond1_iff : ∀ t : Fin grid0.N, k0_cond1 (grid0.coords t) = 1#1 ↔ 8 ≤ t.val := by decide +kernel
/-- at which it waits for an earlier copy out of the ring and passes it on, -/
theorem cond2_iff : ∀ t : Fin grid0.N, k0_cond2 (grid0.coords t) = 1#1 ↔ 4 ≤ t.val := by decide +kernel
/-- and at which it drains everything. -/
theorem cond3_iff : ∀ t : Fin grid0.N, k0_cond3 (grid0.coords t) = 1#1 ↔ t.val = 31 := by decide +kernel

/-! ## The body's slices are the names -/

section Canon

theorem smV_congr {off : Fin 1 → Nat} {s : Fin 4} (e : off = semOff s) (hh) :
    (cc0_scratch1.slice (Rect.unit (s := S4) off S1.size hh)).squeeze S_ squeezes_S1_S_ = smV s :=
  congrArg (fun A : DmaSems sig S1 => A.squeeze S_ squeezes_S1_S_) (SemArray.slice_unit_congr _ e _ _)
theorem smH_congr {off : Fin 1 → Nat} {s : Fin 4} (e : off = semOff s) (hh) :
    (cc0_scratch2.slice (Rect.unit (s := S4) off S1.size hh)).squeeze S_ squeezes_S1_S_ = smH s :=
  congrArg (fun A : DmaSems sig S1 => A.squeeze S_ squeezes_S1_S_) (SemArray.slice_unit_congr _ e _ _)
theorem rslot_congr {off : Fin 5 → Nat} {s : Fin 4} (e : off = slotOff s) (hh hs) :
    (ringM.slice (Rect.unit (s := S4x2x512x3x256) off S1x2x512x3x256.size hh) hs).squeeze S2x512x3x256 squeezes_S1x2x512x3x256_S2x512x3x256 = rslot s :=
  congrArg (fun M : Memref sig .tc .vmem S1x2x512x3x256 .f32 => M.squeeze S2x512x3x256 squeezes_S1x2x512x3x256_S2x512x3x256) (Memref.slice_unit_congr _ e _ _ _ _)
theorem blk1_congr {off : Fin 5 → Nat} {u : Fin 32} (e : off = blkOff u) (hh hs) :
    (o1M.slice (Rect.unit (s := S2x16x1024x3x256) off S2x1x512x3x256.size hh) hs).squeeze S2x512x3x256 squeezes_S2x1x512x3x256_S2x512x3x256 = blk1 u :=
  congrArg (fun M : Memref sig .tc .hbm S2x1x512x3x256 .f32 => M.squeeze S2x512x3x256 squeezes_S2x1x512x3x256_S2x512x3x256) (Memref.slice_unit_congr _ e _ _ _ _)
theorem blk2_congr {off : Fin 5 → Nat} {u : Fin 32} (e : off = blkOff u) (hh hs) :
    (o2M.slice (Rect.unit (s := S2x16x1024x3x256) off S2x1x512x3x256.size hh) hs).squeeze S2x512x3x256 squeezes_S2x1x512x3x256_S2x512x3x256 = blk2 u :=
  congrArg (fun M : Memref sig .tc .hbm S2x1x512x3x256 .f32 => M.squeeze S2x512x3x256 squeezes_S2x1x512x3x256_S2x512x3x256) (Memref.slice_unit_congr _ e _ _ _ _)

variable (t : Fin grid0.N)

/-- The wait for an earlier copy to the second result: its semaphore and its two views. -/
@[sl_canon] theorem cH1 (hh) : (cc0_scratch2.slice (Rect.unit (s := S4) (k0_off1 (grid0.coords t)) S1.size hh)).squeeze S_ squeezes_S1_S_ = smH (Ring.sl 4 t.val) := smH_congr (off1_eq t) _
@[sl_canon] theorem c21 (hh hs) : (o1M.slice (Rect.unit (s := S2x16x1024x3x256) (k0_off2 (grid0.coords t)) S2x1x512x3x256.size hh) hs).squeeze S2x512x3x256 squeezes_S2x1x512x3x256_S2x512x3x256 = blk1 (Ring.bk 32 t.val) := blk1_congr (off2_eq t) _ _
@[sl_canon] theorem c22 (hh hs) : (o2M.slice (Rect.unit (s := S2x16x1024x3x256) (k0_off2 (grid0.coords t)) S2x1x512x3x256.size hh) hs).squeeze S2x512x3x256 squeezes_S2x1x512x3x256_S2x512x3x256 = blk2 (Ring.bk 32 t.val) := blk2_congr (off2_eq t) _ _
/-- The wait for an earlier copy out of the ring, and the copy it is passed on by. -/
@[sl_canon] theorem cV3 (hh) : (cc0_scratch1.slice (Rect.unit (s := S4) (k0_off3 (grid0.coords t)) S1.size hh)).squeeze S_ squeezes_S1_S_ = smV (Ring.sl 4 t.val) := smV_congr (off3_eq t) _
@[sl_canon] theorem cH3 (hh) : (cc0_scratch2.slice (Rect.unit (s := S4) (k0_off3 (grid0.coords t)) S1.size hh)).squeeze S_ squeezes_S1_S_ = smH (Ring.sl 4 t.val) := smH_congr (off3_eq t) _
@[sl_canon] theorem c41 (hh hs) : (o1M.slice (Rect.unit (s := S2x16x1024x3x256) (k0_off4 (grid0.coords t)) S2x1x512x3x256.size hh) hs).squeeze S2x512x3x256 squeezes_S2x1x512x3x256_S2x512x3x256 = blk1 (Ring.bk 32 t.val) := blk1_congr (off4_eq t) _ _
@[sl_canon] theorem cS5 (hh hs) : (ringM.slice (Rect.unit (s := S4x2x512x3x256) (k0_off5 (grid0.coords t)) S1x2x512x3x256.size hh) hs).squeeze S2x512x3x256 squeezes_S1x2x512x3x256_S2x512x3x256 = rslot (Ring.sl 4 t.val) := rslot_congr (off5_eq t) _ _
@[sl_canon] theorem c61 (h4 : 4 ≤ t.val) (hh hs) : (o1M.slice (Rect.unit (s := S2x16x1024x3x256) (k0_off6 (grid0.coords t)) S2x1x512x3x256.size hh) hs).squeeze S2x512x3x256 squeezes_S2x1x512x3x256_S2x512x3x256 = blk1 (Ring.bk 32 (t.val - 4)) := blk1_congr (off6_eq t h4) _ _
@[sl_canon] theorem c62 (h4 : 4 ≤ t.val) (hh hs) : (o2M.slice (Rect.unit (s := S2x16x1024x3x256) (k0_off6 (grid0.coords t)) S2x1x512x3x256.size hh) hs).squeeze S2x512x3x256 squeezes_S2x1x512x3x256_S2x512x3x256 = blk2 (Ring.bk 32 (t.val - 4)) := blk2_congr (off6_eq t h4) _ _
/-- The step's own copy out of the ring. -/
@[sl_canon] theorem cV13 (hh) : (cc0_scratch1.slice (Rect.unit (s := S4) (k0_off13 (grid0.coords t)) S1.size hh)).squeeze S_ squeezes_S1_S_ = smV (Ring.sl 4 t.val) := smV_congr (off13_eq t) _
@[sl_canon] theorem c141 (hh hs) : (o1M.slice (Rect.unit (s := S2x16x1024x3x256) (k0_off14 (grid0.coords t)) S2x1x512x3x256.size hh) hs).squeeze S2x512x3x256 squeezes_S2x1x512x3x256_S2x512x3x256 = blk1 (Ring.bk 32 t.val) := blk1_congr (off14_eq t) _ _
@[sl_canon] theorem cS15 (hh hs) : (ringM.slice (Rect.unit (s := S4x2x512x3x256) (k0_off15 (grid0.coords t)) S1x2x512x3x256.size hh) hs).squeeze S2x512x3x256 squeezes_S1x2x512x3x256_S2x512x3x256 = rslot (Ring.sl 4 t.val) := rslot_congr (off15_eq t) _ _

/-! The drain at the last step names the first three slots and their blocks outright. -/

@[sl_canon] theorem dV0 (hh) : (cc0_scratch1.slice (Rect.unit (s := S4) ![0] S1.size hh)).squeeze S_ squeezes_S1_S_ = smV 0 := smV_congr (off := ![0]) (s := 0) (by decide) _
@[sl_canon] theorem dH0 (hh) : (cc0_scratch2.slice (Rect.unit (s := S4) ![0] S1.size hh)).squeeze S_ squeezes_S1_S_ = smH 0 := smH_congr (off := ![0]) (s := 0) (by decide) _
@[sl_canon] theorem dS0 (hh hs) : (ringM.slice (Rect.unit (s := S4x2x512x3x256) ![0, 0, 0, 0, 0] S1x2x512x3x256.size hh) hs).squeeze S2x512x3x256 squeezes_S1x2x512x3x256_S2x512x3x256 = rslot 0 := rslot_congr (off := ![0, 0, 0, 0, 0]) (s := 0) (by decide) _ _
@[sl_canon] theorem dA0 (hh hs) : (o1M.slice (Rect.unit (s := S2x16x1024x3x256) ![0, 14, 0, 0, 0] S2x1x512x3x256.size hh) hs).squeeze S2x512x3x256 squeezes_S2x1x512x3x256_S2x512x3x256 = blk1 28 := blk1_congr (off := ![0, 14, 0, 0, 0]) (u := 28) (by decide) _ _
@[sl_canon] theorem dB0 (hh hs) : (o2M.slice (Rect.unit (s := S2x16x1024x3x256) ![0, 14, 0, 0, 0] S2x1x512x3x256.size hh) hs).squeeze S2x512x3x256 squeezes_S2x1x512x3x256_S2x512x3x256 = blk2 28 := blk2_congr (off := ![0, 14, 0, 0, 0]) (u := 28) (by decide) _ _
@[sl_canon] theorem dV1 (hh) : (cc0_scratch1.slice (Rect.unit (s := S4) ![1] S1.size hh)).squeeze S_ squeezes_S1_S_ = smV 1 := smV_congr (off := ![1]) (s := 1) (by decide) _
@[sl_canon] theorem dH1 (hh) : (cc0_scratch2.slice (Rect.unit (s := S4) ![1] S1.size hh)).squeeze S_ squeezes_S1_S_ = smH 1 := smH_congr (off := ![1]) (s := 1) (by decide) _
@[sl_canon] theorem dS1 (hh hs) : (ringM.slice (Rect.unit (s := S4x2x512x3x256) ![1, 0, 0, 0, 0] S1x2x512x3x256.size hh) hs).squeeze S2x512x3x256 squeezes_S1x2x512x3x256_S2x512x3x256 = rslot 1 := rslot_congr (off := ![1, 0, 0, 0, 0]) (s := 1) (by decide) _ _
@[sl_canon] theorem dA1 (hh hs) : (o1M.slice (Rect.unit (s := S2x16x1024x3x256) ![0, 14, 512, 0, 0] S2x1x512x3x256.size hh) hs).squeeze S2x512x3x256 squeezes_S2x1x512x3x256_S2x512x3x256 = blk1 29 := blk1_congr (off := ![0, 14, 512, 0, 0]) (u := 29) (by decide) _ _
@[sl_canon] theorem dB1 (hh hs) : (o2M.slice (Rect.unit (s := S2x16x1024x3x256) ![0, 14, 512, 0, 0] S2x1x512x3x256.size hh) hs).squeeze S2x512x3x256 squeezes_S2x1x512x3x256_S2x512x3x256 = blk2 29 := blk2_congr (off := ![0, 14, 512, 0, 0]) (u := 29) (by decide) _ _
@[sl_canon] theorem dV2 (hh) : (cc0_scratch1.slice (Rect.unit (s := S4) ![2] S1.size hh)).squeeze S_ squeezes_S1_S_ = smV 2 := smV_congr (off := ![2]) (s := 2) (by decide) _
@[sl_canon] theorem dH2 (hh) : (cc0_scratch2.slice (Rect.unit (s := S4) ![2] S1.size hh)).squeeze S_ squeezes_S1_S_ = smH 2 := smH_congr (off := ![2]) (s := 2) (by decide) _
@[sl_canon] theorem dS2 (hh hs) : (ringM.slice (Rect.unit (s := S4x2x512x3x256) ![2, 0, 0, 0, 0] S1x2x512x3x256.size hh) hs).squeeze S2x512x3x256 squeezes_S1x2x512x3x256_S2x512x3x256 = rslot 2 := rslot_congr (off := ![2, 0, 0, 0, 0]) (s := 2) (by decide) _ _
@[sl_canon] theorem dA2 (hh hs) : (o1M.slice (Rect.unit (s := S2x16x1024x3x256) ![0, 15, 0, 0, 0] S2x1x512x3x256.size hh) hs).squeeze S2x512x3x256 squeezes_S2x1x512x3x256_S2x512x3x256 = blk1 30 := blk1_congr (off := ![0, 15, 0, 0, 0]) (u := 30) (by decide) _ _
@[sl_canon] theorem dB2 (hh hs) : (o2M.slice (Rect.unit (s := S2x16x1024x3x256) ![0, 15, 0, 0, 0] S2x1x512x3x256.size hh) hs).squeeze S2x512x3x256 squeezes_S2x1x512x3x256_S2x512x3x256 = blk2 30 := blk2_congr (off := ![0, 15, 0, 0, 0]) (u := 30) (by decide) _ _

/-- The views its waits name, which only count. -/
@[sl_canon] theorem c161 (hh hs) : (o1M.slice (Rect.unit (s := S2x16x1024x3x256) (k0_off16 (grid0.coords t)) S2x1x512x3x256.size hh) hs).squeeze S2x512x3x256 squeezes_S2x1x512x3x256_S2x512x3x256 = blk1 (Ring.bk 32 t.val) := blk1_congr (off16_eq t) _ _
@[sl_canon] theorem c162 (hh hs) : (o2M.slice (Rect.unit (s := S2x16x1024x3x256) (k0_off16 (grid0.coords t)) S2x1x512x3x256.size hh) hs).squeeze S2x512x3x256 squeezes_S2x1x512x3x256_S2x512x3x256 = blk2 (Ring.bk 32 t.val) := blk2_congr (off16_eq t) _ _

end Canon

end Cert.KernelIdeal.Hand
end
-- ==== Proof.IVals.lean ====
/-
  The names' geometry: where an index of a block or of a slot lies in the whole array, and what reading a slot gives
  after the six stores a step makes into it.
-/
module

public import proofs.«01_k».proof.Proof.INames
public import Idealize.ShloMosaic.Lib.WritesUnit
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

/-! ## Where an index lies -/

/-- Where index `y` of step `u`'s block lies in a result. -/
def inRes (u : Fin 32) (y : S2x512x3x256.Idx) : S2x16x1024x3x256.Idx :=
  ix5 (y 0) (⟨u.val / 2, by have := u.isLt; omega⟩ : Fin 16) (⟨u.val % 2 * 512 + (y 1).val, by have : (y 1).val < 512 := (y 1).isLt; omega⟩ : Fin 1024) (y 2) (y 3)
/-- Where index `y` of slot `s` lies in the ring. -/
def inRing (s : Fin 4) (y : S2x512x3x256.Idx) : S4x2x512x3x256.Idx := ix5 s (y 0) (y 1) (y 2) (y 3)

/-- The unit axis put back second. -/
theorem reshape_blk (h : S2x512x3x256.numel = S2x1x512x3x256.numel) (y : S2x512x3x256.Idx) :
    Shape.reshapeEquiv h y = (ix5 (y 0) (0 : Fin 1) (y 1) (y 2) (y 3) : S2x1x512x3x256.Idx) :=
  Shape.reshapeEquiv_eq_of_rowMajor h (by
    rw [Shape.rowMajor_val_five, Shape.rowMajor_val_four]
    show (((((y 0).val * 1 + 0) * 512 + (y 1).val) * 3 + (y 2).val) * 256 + (y 3).val) = (((y 0).val * 512 + (y 1).val) * 3 + (y 2).val) * 256 + (y 3).val
    simp only [Nat.mul_one, Nat.add_zero])
/-- The unit axis put back first. -/
theorem reshape_slot (h : S2x512x3x256.numel = S1x2x512x3x256.numel) (y : S2x512x3x256.Idx) :
    Shape.reshapeEquiv h y = (ix5 (0 : Fin 1) (y 0) (y 1) (y 2) (y 3) : S1x2x512x3x256.Idx) :=
  Shape.reshapeEquiv_eq_of_rowMajor h (by
    rw [Shape.rowMajor_val_five, Shape.rowMajor_val_four]
    show ((((0 * 2 + (y 0).val) * 512 + (y 1).val) * 3 + (y 2).val) * 256 + (y 3).val) = (((y 0).val * 512 + (y 1).val) * 3 + (y 2).val) * 256 + (y 3).val
    simp only [Nat.zero_mul, Nat.zero_add])

theorem unit_blk (u : Fin 32) (y : S2x512x3x256.Idx) :
    (Rect.unit (s := S2x16x1024x3x256) (blkOff u) S2x1x512x3x256.size (blkOff_inb u)).emb (ix5 (y 0) (0 : Fin 1) (y 1) (y 2) (y 3) : S2x1x512x3x256.Idx) = inRes u y := by
  funext a; apply Fin.ext; fin_cases a
  · show 0 + 1 * (y 0).val = (y 0).val; omega
  · show u.val / 2 + 1 * 0 = u.val / 2; omega
  · show u.val % 2 * 512 + 1 * (y 1).val = u.val % 2 * 512 + (y 1).val; omega
  · show 0 + 1 * (y 2).val = (y 2).val; omega
  · show 0 + 1 * (y 3).val = (y 3).val; omega
theorem unit_slot (s : Fin 4) (y : S2x512x3x256.Idx) :
    (Rect.unit (s := S4x2x512x3x256) (slotOff s) S1x2x512x3x256.size (slotOff_inb s)).emb (ix5 (0 : Fin 1) (y 0) (y 1) (y 2) (y 3) : S1x2x512x3x256.Idx) = inRing s y := by
  funext a; apply Fin.ext; fin_cases a
  · show s.val + 1 * 0 = s.val; omega
  · show 0 + 1 * (y 0).val = (y 0).val; omega
  · show 0 + 1 * (y 1).val = (y 1).val; omega
  · show 0 + 1 * (y 2).val = (y 2).val; omega
  · show 0 + 1 * (y 3).val = (y 3).val; omega

theorem blk1_emb (u : Fin 32) (y : S2x512x3x256.Idx) : (blk1 u).view.emb y = inRes u y :=
  (congrArg (Rect.unit (s := S2x16x1024x3x256) (blkOff u) S2x1x512x3x256.size (blkOff_inb u)).emb (reshape_blk _ y)).trans (unit_blk u y)
theorem blk2_emb (u : Fin 32) (y : S2x512x3x256.Idx) : (blk2 u).view.emb y = inRes u y :=
  (congrArg (Rect.unit (s := S2x16x1024x3x256) (blkOff u) S2x1x512x3x256.size (blkOff_inb u)).emb (reshape_blk _ y)).trans (unit_blk u y)
theorem rslot_emb (s : Fin 4) (y : S2x512x3x256.Idx) : (rslot s).view.emb y = inRing s y :=
  (congrArg (Rect.unit (s := S4x2x512x3x256) (slotOff s) S1x2x512x3x256.size (slotOff_inb s)).emb (reshape_slot _ y)).trans (unit_slot s y)

/-- Reading slot `s` reads the ring there. -/
theorem rslot_read (s : Fin 4) (f : S4x2x512x3x256.Idx → Elt F .f32) (y : S2x512x3x256.Idx) :
    (rslot s).view.read (Elt F) f y = ringM.view.read (Elt F) f (inRing s y) := by
  show f ((rslot s).view.emb y) = f (inRing s y)
  rw [rslot_emb]

/-! ## What a slot reads as after a step's six stores -/

/-- A slot's words from the six rectangles a step stores: by the first axis and by the third. -/
def tileOf (w0 w1 w2 w3 w4 w5 : S1x1x512x1x256.Idx → Elt F .f32) (y : S2x512x3x256.Idx) : Elt F .f32 :=
  if (y 0).val = 0 then
    if (y 2).val = 0 then w0 (ix5 (0 : Fin 1) (0 : Fin 1) (y 1) (0 : Fin 1) (y 3))
    else if (y 2).val = 1 then w1 (ix5 (0 : Fin 1) (0 : Fin 1) (y 1) (0 : Fin 1) (y 3))
    else w2 (ix5 (0 : Fin 1) (0 : Fin 1) (y 1) (0 : Fin 1) (y 3))
  else
    if (y 2).val = 0 then w3 (ix5 (0 : Fin 1) (0 : Fin 1) (y 1) (0 : Fin 1) (y 3))
    else if (y 2).val = 1 then w4 (ix5 (0 : Fin 1) (0 : Fin 1) (y 1) (0 : Fin 1) (y 3))
    else w5 (ix5 (0 : Fin 1) (0 : Fin 1) (y 1) (0 : Fin 1) (y 3))

/-- The newest store decides inside its rectangle; outside it the earlier ones do. -/
theorem read_cons_slot (s : Fin 4) (a k : ℕ) {off : Fin 5 → ℕ} (e : off = ![s.val, a, 0, k, 0])
    (inb : ∀ x, off x + S1x1x512x1x256.size x ≤ S4x2x512x3x256.size x) (f : S4x2x512x3x256.Idx → Elt F .f32)
    (w : S1x1x512x1x256.Idx → Elt F .f32) (L : List (View.Piece (Elt F) S4x2x512x3x256 .f32)) (y : S2x512x3x256.Idx) :
    ringM.view.read (Elt F) (ringM.view.writes (Elt F) f (⟨Rect.unit (s := S4x2x512x3x256) off S1x1x512x1x256.size inb, w⟩ :: L)) (inRing s y)
      = if (y 0).val = a ∧ (y 2).val = k then w (ix5 (0 : Fin 1) (0 : Fin 1) (y 1) (0 : Fin 1) (y 3))
        else ringM.view.read (Elt F) (ringM.view.writes (Elt F) f L) (inRing s y) := by
  by_cases h : (y 0).val = a ∧ (y 2).val = k
  · rw [if_pos h]
    refine View.read_writes_cons_unit_of_mem ringM.view f inb w L (inRing s y) _ e fun x => ?_
    fin_cases x
    · show s.val = s.val + 0; omega
    · show (y 0).val = a + 0; omega
    · show (y 1).val = 0 + (y 1).val; omega
    · show (y 2).val = k + 0; omega
    · show (y 3).val = 0 + (y 3).val; omega
  · rw [if_neg h]
    by_cases h0 : (y 0).val = a
    · refine View.read_writes_cons_unit_of_not_mem ringM.view f inb w L (inRing s y) e 3 ?_
      show (y 2).val < k ∨ k + 1 ≤ (y 2).val
      omega
    · refine View.read_writes_cons_unit_of_not_mem ringM.view f inb w L (inRing s y) e 1 ?_
      show (y 0).val < a ∨ a + 1 ≤ (y 0).val
      omega

/-- A step's six stores into its slot, read back through the slot. -/
theorem slot_read (t : Fin grid0.N) (f : S4x2x512x3x256.Idx → Elt F .f32) (w0 w1 w2 w3 w4 w5 : S1x1x512x1x256.Idx → Elt F .f32)
    (y : S2x512x3x256.Idx) :
    (rslot (Ring.sl 4 t.val)).view.read (Elt F)
      (ringM.view.writes (Elt F) f
        [⟨Rect.unit (s := S4x2x512x3x256) (k0_off12 (grid0.coords t)) S1x1x512x1x256.size (k0_off12_inb (grid0.coords t)), w5⟩,
         ⟨Rect.unit (s := S4x2x512x3x256) (k0_off11 (grid0.coords t)) S1x1x512x1x256.size (k0_off11_inb (grid0.coords t)), w4⟩,
         ⟨Rect.unit (s := S4x2x512x3x256) (k0_off10 (grid0.coords t)) S1x1x512x1x256.size (k0_off10_inb (grid0.coords t)), w3⟩,
         ⟨Rect.unit (s := S4x2x512x3x256) (k0_off9 (grid0.coords t)) S1x1x512x1x256.size (k0_off9_inb (grid0.coords t)), w2⟩,
         ⟨Rect.unit (s := S4x2x512x3x256) (k0_off8 (grid0.coords t)) S1x1x512x1x256.size (k0_off8_inb (grid0.coords t)), w1⟩,
         ⟨Rect.unit (s := S4x2x512x3x256) (k0_off7 (grid0.coords t)) S1x1x512x1x256.size (k0_off7_inb (grid0.coords t)), w0⟩]) y
      = tileOf w0 w1 w2 w3 w4 w5 y := by
  rw [rslot_read, read_cons_slot _ 1 2 (off12_eq t), read_cons_slot _ 1 1 (off11_eq t), read_cons_slot _ 1 0 (off10_eq t),
    read_cons_slot _ 0 2 (off9_eq t), read_cons_slot _ 0 1 (off8_eq t), read_cons_slot _ 0 0 (off7_eq t)]
  have h0 : (y 0).val < 2 := (y 0).isLt
  have h2 : (y 2).val < 3 := (y 2).isLt
  unfold tileOf
  obtain e0 | e0 : (y 0).val = 0 ∨ (y 0).val = 1 := by omega
  all_goals obtain e2 | e2 | e2 : (y 2).val = 0 ∨ (y 2).val = 1 ∨ (y 2).val = 2 := by omega
  all_goals simp [e0, e2]

/-! ## A step's words -/

/-- Rows 0 to 6 of the coefficients' table, as the body loads them. -/
abbrev coef (x5 : S8x128.Idx → Elt F .f32) : Fin 7 → FVec F S128 .f32 := ![
  k0_pay1 (View.ld x5 (Rect.unit (s := S8x128) ![0, 0] S1x128.size inb_S8x128_S1x128_0_0)),
  k0_pay2 (View.ld x5 (Rect.unit (s := S8x128) ![1, 0] S1x128.size inb_S8x128_S1x128_1_0)),
  k0_pay3 (View.ld x5 (Rect.unit (s := S8x128) ![2, 0] S1x128.size inb_S8x128_S1x128_2_0)),
  k0_pay4 (View.ld x5 (Rect.unit (s := S8x128) ![3, 0] S1x128.size inb_S8x128_S1x128_3_0)),
  k0_pay5 (View.ld x5 (Rect.unit (s := S8x128) ![4, 0] S1x128.size inb_S8x128_S1x128_4_0)),
  k0_pay6 (View.ld x5 (Rect.unit (s := S8x128) ![5, 0] S1x128.size inb_S8x128_S1x128_5_0)),
  k0_pay7 (View.ld x5 (Rect.unit (s := S8x128) ![6, 0] S1x128.size inb_S8x128_S1x128_6_0))]

/-- The words of a step's slot, from the step's five blocks. -/
def tile (x2 : S1x512x2.Idx → Elt F .f32) (x3 : S1x512x4.Idx → Elt F .f32) (x4 : S1x512x256.Idx → Elt F .f32)
    (x5 : S8x128.Idx → Elt F .f32) (x6 : S8x256.Idx → Elt F .f32) : S2x512x3x256.Idx → Elt F .f32 :=
  tileOf
    (k0_pay11 (k0_pay8 (View.ld x4 (Rect.unit (s := S1x512x256) ![0, 0, 0] S1x512x256.size inb_S1x512x256_S1x512x256_0_0_0))) (k0_pay10 (coef x5 0) (coef x5 1) (coef x5 2) (coef x5 3) (coef x5 4) (coef x5 5) (coef x5 6) (k0_pay9 (View.ld x2 (Rect.unit (s := S1x512x2) ![0, 0, 0] S1x512x1.size inb_S1x512x2_S1x512x1_0_0_0))) (View.ld x2 (Rect.unit (s := S1x512x2) ![0, 0, 1] S1x512x1.size inb_S1x512x2_S1x512x1_0_0_1))) (View.ld x6 (Rect.unit (s := S8x256) ![0, 0] S1x256.size inb_S8x256_S1x256_0_0)))
    (k0_pay12 (View.ld x6 (Rect.unit (s := S8x256) ![3, 0] S1x256.size inb_S8x256_S1x256_3_0)))
    (k0_pay13 (View.ld x6 (Rect.unit (s := S8x256) ![4, 0] S1x256.size inb_S8x256_S1x256_4_0)))
    (k0_pay19 (k0_pay8 (View.ld x4 (Rect.unit (s := S1x512x256) ![0, 0, 0] S1x512x256.size inb_S1x512x256_S1x512x256_0_0_0))) (k0_pay18 (coef x5 0) (coef x5 1) (coef x5 2) (coef x5 3) (coef x5 4) (coef x5 5) (coef x5 6) (k0_pay14 (View.ld x3 (Rect.unit (s := S1x512x4) ![0, 0, 0] S1x512x1.size inb_S1x512x4_S1x512x1_0_0_0))) (k0_pay15 (View.ld x3 (Rect.unit (s := S1x512x4) ![0, 0, 1] S1x512x1.size inb_S1x512x4_S1x512x1_0_0_1)))) (View.ld x6 (Rect.unit (s := S8x256) ![1, 0] S1x256.size inb_S8x256_S1x256_1_0)))
    (k0_pay26 (coef x5 6) (k0_pay8 (View.ld x4 (Rect.unit (s := S1x512x256) ![0, 0, 0] S1x512x256.size inb_S1x512x256_S1x512x256_0_0_0))) (k0_pay20 (coef x5 0) (coef x5 1) (coef x5 2) (coef x5 3) (coef x5 4) (coef x5 5) (coef x5 6) (k0_pay17 (View.ld x3 (Rect.unit (s := S1x512x4) ![0, 0, 3] S1x512x1.size inb_S1x512x4_S1x512x1_0_0_3)))) (k0_pay21 (coef x5 0) (k0_pay16 (View.ld x3 (Rect.unit (s := S1x512x4) ![0, 0, 2] S1x512x1.size inb_S1x512x4_S1x512x1_0_0_2)))) (k0_pay22 (coef x5 0) (k0_pay16 (View.ld x3 (Rect.unit (s := S1x512x4) ![0, 0, 2] S1x512x1.size inb_S1x512x4_S1x512x1_0_0_2))))
      (k0_pay23 (coef x5 0) (coef x5 1) (coef x5 3) (coef x5 5) (k0_pay16 (View.ld x3 (Rect.unit (s := S1x512x4) ![0, 0, 2] S1x512x1.size inb_S1x512x4_S1x512x1_0_0_2)))) (k0_pay24 (coef x5 2)) (k0_pay25 (coef x5 4)) (View.ld x6 (Rect.unit (s := S8x256) ![2, 0] S1x256.size inb_S8x256_S1x256_2_0)))
    (k0_pay27 (View.ld x6 (Rect.unit (s := S8x256) ![5, 0] S1x256.size inb_S8x256_S1x256_5_0)))

end Cert.KernelIdeal.Hand
end
-- ==== Proof.IStep.lean ====
module

public import proofs.«01_k».proof.Proof.IVals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Pieces
variable (c : Dev nD)

/-- Step `u`'s block of the first result, held at `f`. -/
abbrev b1P (u : Fin 32) (f : Buf (Elt F) ((blk1 u).view.loc (c : Thread nD τ))) : sProp 𝕄 := (blk1 u).view.loc (c : Thread nD τ) ↦[(blk1 u).view.set]{fullShare} f
/-- Step `u`'s block of the second result, held at `f`. -/
abbrev b2P (u : Fin 32) (f : Buf (Elt F) ((blk2 u).view.loc (c : Thread nD τ))) : sProp 𝕄 := (blk2 u).view.loc (c : Thread nD τ) ↦[(blk2 u).view.set]{fullShare} f
/-- Slot `s`, held at `f`. -/
abbrev slP (s : Fin 4) (f : Buf (Elt F) ((rslot s).view.loc (c : Thread nD τ))) : sProp 𝕄 := (rslot s).view.loc (c : Thread nD τ) ↦[(rslot s).view.set]{fullShare} f
/-- Slot `s`'s semaphores at zero. -/
abbrev vP (s : Fin 4) : sProp 𝕄 := semVal ((c : Thread nD τ), SemLoc.dma (smV s).sem) 0
abbrev hP (s : Fin 4) : sProp 𝕄 := semVal ((c : Thread nD τ), SemLoc.dma (smH s).sem) 0
/-- Step `u`'s copy out of its slot, in flight: it delivers the block at `g` and the slot. -/
abbrev vF (u : Fin 32) (s : Fin 4) (g : Buf (Elt F) ((blk1 u).view.loc (c : Thread nD τ))) (f : Buf (Elt F) ((rslot s).view.loc (c : Thread nD τ))) : sProp 𝕄 :=
  Transfers.Flight (countersEmb (U := Pipeline.UD sig nD τ)) (c : Thread nD τ) (SemLoc.dma (smV s).sem) () 98304 iprop(b1P c u g ∗ slP c s f)
/-- Step `u`'s copy on to the second result, in flight: it delivers both blocks. -/
abbrev hF (u : Fin 32) (s : Fin 4) (g : Buf (Elt F) ((blk2 u).view.loc (c : Thread nD τ))) (f : Buf (Elt F) ((blk1 u).view.loc (c : Thread nD τ))) : sProp 𝕄 :=
  Transfers.Flight (countersEmb (U := Pipeline.UD sig nD τ)) (c : Thread nD τ) (SemLoc.dma (smH s).sem) () 98304 iprop(b2P c u g ∗ b1P c u f)

/-- A view's elements held at a whole write of what `g` reads as there are held at `g`. -/
theorem landed_eq {sp : Space} {s : Shape} {e : EltTy} (m : Memref sig .tc sp s e) (f g : Buf (Elt F) (m.view.loc (c : Thread nD τ))) (p : s.Idx → Elt F e)
    (h : p = m.view.read (Elt F) g) :
    (m.view.loc (c : Thread nD τ) ↦[m.view.set]{fullShare} m.view.writes (Elt F) f [⟨Rect.whole s, p⟩] : sProp 𝕄)
      = m.view.loc (c : Thread nD τ) ↦[m.view.set]{fullShare} g := by
  rw [pointsTo_rep (c : Thread nD τ) m (m.view.writes (Elt F) f _), pointsTo_rep (c : Thread nD τ) m g, View.read_writes_whole, h]
/-- What a block of the first result reads as when it is held at `g`. -/
theorem blk1_read (u : Fin 32) (g : S2x16x1024x3x256.Idx → Elt F .f32) (y : S2x512x3x256.Idx) :
    (blk1 u).view.read (Elt F) g y = g (inRes u y) := by
  show g ((blk1 u).view.emb y) = _
  rw [blk1_emb]
/-- What a block of the second result reads as when it is held at `g`. -/
theorem blk2_read (u : Fin 32) (g : S2x16x1024x3x256.Idx → Elt F .f32) (y : S2x512x3x256.Idx) :
    (blk2 u).view.read (Elt F) g y = g (inRes u y) := by
  show g ((blk2 u).view.emb y) = _
  rw [blk2_emb]
/-- A block of the first result a copy has just filled with words that are `g`'s there is held at `g`. -/
theorem b1P_landed (u : Fin 32) (f : Buf (Elt F) ((blk1 u).view.loc (c : Thread nD τ))) (T : S2x512x3x256.Idx → Elt F .f32)
    (g : S2x16x1024x3x256.Idx → Elt F .f32) (h : ∀ y, T y = g (inRes u y)) :
    (b1P c u ((blk1 u).view.writes (Elt F) f [⟨Rect.whole S2x512x3x256, T⟩]) : sProp 𝕄) = b1P c u g :=
  landed_eq c (blk1 u) f g T (funext fun y => (h y).trans (blk1_read u g y).symm)
/-- A block of the second result a copy has just filled with words that are `g`'s there is held at `g`. -/
theorem b2P_landed (u : Fin 32) (f : Buf (Elt F) ((blk2 u).view.loc (c : Thread nD τ))) (T : S2x512x3x256.Idx → Elt F .f32)
    (g : S2x16x1024x3x256.Idx → Elt F .f32) (h : ∀ y, T y = g (inRes u y)) :
    (b2P c u ((blk2 u).view.writes (Elt F) f [⟨Rect.whole S2x512x3x256, T⟩]) : sProp 𝕄) = b2P c u g :=
  landed_eq c (blk2 u) f g T (funext fun y => (h y).trans (blk2_read u g y).symm)
/-- The step's copy out of the ring, from the words it has read. -/
theorem vF_landed (u : Fin 32) (s : Fin 4) (f : Buf (Elt F) ((blk1 u).view.loc (c : Thread nD τ))) (f' : Buf (Elt F) ((rslot s).view.loc (c : Thread nD τ)))
    (T : S2x512x3x256.Idx → Elt F .f32) (g : S2x16x1024x3x256.Idx → Elt F .f32) :
    iprop(vF c u s ((blk1 u).view.writes (Elt F) f [⟨Rect.whole S2x512x3x256, T⟩]) f' ∗ ⌜∀ y, T y = g (inRes u y)⌝) ⊢ (vF c u s g f' : sProp 𝕄) := by
  iintro ⟨H, %h⟩
  iapply (Transfers.Flight_mono _ _ (sep_mono_l (Entails.of_eq (b1P_landed c u f T g h))))
  iexact H
/-- The copy on to the second result, from the block of the first it has read. -/
theorem hF_landed (u : Fin 32) (s : Fin 4) (f : Buf (Elt F) ((blk2 u).view.loc (c : Thread nD τ))) (f' : Buf (Elt F) ((blk1 u).view.loc (c : Thread nD τ)))
    (T : S2x512x3x256.Idx → Elt F .f32) (g : S2x16x1024x3x256.Idx → Elt F .f32) :
    iprop(hF c u s ((blk2 u).view.writes (Elt F) f [⟨Rect.whole S2x512x3x256, T⟩]) f' ∗ ⌜∀ y, T y = g (inRes u y)⌝) ⊢ (hF c u s g f' : sProp 𝕄) := by
  iintro ⟨H, %h⟩
  iapply (Transfers.Flight_mono _ _ (sep_mono_l (Entails.of_eq (b2P_landed c u f T g h))))
  iexact H
end Pieces

section Run
variable (c : Dev nD) (t : Fin grid0.N)
  (arg2 : Memref sig .tc .vmem S1x512x2 .f32) (harg2 : arg2.IsWhole)
  (arg3 : Memref sig .tc .vmem S1x512x4 .f32) (harg3 : arg3.IsWhole)
  (arg4 : Memref sig .tc .vmem S1x512x256 .f32) (harg4 : arg4.IsWhole)
  (arg5 : Memref sig .tc .vmem S8x128 .f32) (harg5 : arg5.IsWhole)
  (arg6 : Memref sig .tc .vmem S8x256 .f32) (harg6 : arg6.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ)))

abbrev bodyG (t : Fin grid0.N) : Prog (TpuEff nD τ sig (Elt F) Λ₀ .tc) PUnit :=
  cc0__body (F := F) (grid0.coords t) arg2 harg2 arg3 harg3 arg4 harg4 arg5 harg5 arg6 harg6 o1M (Memref.isWhole_whole _) o2M (Memref.isWhole_whole _) ringM (Memref.isWhole_whole _) cc0_scratch1 cc0_scratch2

/-- The five staged blocks. -/
abbrev ins : sProp 𝕄 := iprop((arg2.view.loc (c : Thread nD τ) ↦[arg2.view.set]{fullShare} f2) ∗ (arg3.view.loc (c : Thread nD τ) ↦[arg3.view.set]{fullShare} f3)
  ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6))

variable (g : S2x16x1024x3x256.Idx → Elt F .f32)
/-- The step's block of `g` holds the step's words. -/
abbrev Here : Prop := ∀ y, tile (arg2.view.read (Elt F) f2) (arg3.view.read (Elt F) f3) (arg4.view.read (Elt F) f4) (arg5.view.read (Elt F) f5) (arg6.view.read (Elt F) f6) y = g (inRes (Ring.bk 32 t.val) y)

set_option maxHeartbeats 4000000 in
theorem runC (h8 : 8 ≤ t.val) (h31 : t.val ≠ 31) (hg : Here c t arg2 arg3 arg4 arg5 arg6 f2 f3 f4 f5 f6 g) :
    iprop(ins c arg2 arg3 arg4 arg5 arg6 f2 f3 f4 f5 f6 ∗ (∃ W, owes (c : Thread nD τ) 0 W)
      ∗ (∃ f, b1P c (Ring.bk 32 t.val) f)
      ∗ (∃ f, b2P c (Ring.bk 32 (t.val - 4)) f) ∗ (∃ f, vF c (Ring.bk 32 (t.val - 4)) (Ring.sl 4 t.val) g f)
      ∗ hF c (Ring.bk 32 (t.val - 8)) (Ring.sl 4 t.val) g g)
     ⊢ wp frame (wpE (defs₀ (F := F)) Variants.none (c : Thread nD τ) none) Set.univ (bodyG arg2 harg2 arg3 harg3 arg4 harg4 arg5 harg5 arg6 harg6 t)
        (fun _ => iprop(ins c arg2 arg3 arg4 arg5 arg6 f2 f3 f4 f5 f6 ∗ (∃ W, owes (c : Thread nD τ) 0 W)
          ∗ (∃ f, vF c (Ring.bk 32 t.val) (Ring.sl 4 t.val) g f) ∗ hF c (Ring.bk 32 (t.val - 4)) (Ring.sl 4 t.val) g g
          ∗ b1P c (Ring.bk 32 (t.val - 8)) g ∗ b2P c (Ring.bk 32 (t.val - 8)) g)) := by
  have h4 : 4 ≤ t.val := by omega
  have k1 : k0_cond1 (grid0.coords t) = 1#1 := (cond1_iff t).2 h8
  have k2 : k0_cond2 (grid0.coords t) = 1#1 := (cond2_iff t).2 h4
  have k3 : ¬ k0_cond3 (grid0.coords t) = 1#1 := fun h => h31 ((cond3_iff t).1 h)
  dsimp only [bodyG]
  rw [cc0__body_eq_skeleton]
  iintro ⟨⟨H2, H3, H4, H5, H6⟩, ⟨%W, HW⟩, ⟨%f1, HB1⟩, ⟨%fb, HB2⟩, ⟨%fs, HV⟩, HH⟩
  sl_exec
  sl_step
  isplitl [H2 H3 H4 H5 H6]
  · isplitl [H2]; · iexact H2
    isplitl [H3]; · iexact H3
    isplitl [H4]; · iexact H4
    isplitl [H5]; · iexact H5
    iexact H6
  isplitl [HW]; · iexists _; iexact HW
  isplitl [HV]
  · iexists _
    iapply (vF_landed c _ _ _ _ _ g)
    isplitl [HV]; · iexact HV
    · ipureintro
      intro y
      refine Eq.trans ?_ (hg y)
      sl_unfold_words
      exact slot_read t _ _ _ _ _ _ _ y
  isplitl [HH]
  · iapply (hF_landed c _ _ _ _ _ g)
    isplitl [HH]; · iexact HH
    · ipureintro
      intro y
      sl_unfold_words
      exact blk1_read _ g y
  isplitl [HH_src]; · iexact HH_src
  iexact HH_dst

end Run

end Cert.KernelIdeal.Hand
end
-- ==== Proof.IStepB.lean ====
module

public import proofs.«01_k».proof.Proof.IStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Run
variable (c : Dev nD) (t : Fin grid0.N)
  (arg2 : Memref sig .tc .vmem S1x512x2 .f32) (harg2 : arg2.IsWhole)
  (arg3 : Memref sig .tc .vmem S1x512x4 .f32) (harg3 : arg3.IsWhole)
  (arg4 : Memref sig .tc .vmem S1x512x256 .f32) (harg4 : arg4.IsWhole)
  (arg5 : Memref sig .tc .vmem S8x128 .f32) (harg5 : arg5.IsWhole)
  (arg6 : Memref sig .tc .vmem S8x256 .f32) (harg6 : arg6.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ)))

variable (g : S2x16x1024x3x256.Idx → Elt F .f32)

set_option maxHeartbeats 4000000 in
/-- The first four steps: nothing to wait for. -/
theorem runA (h4 : t.val < 4) (hg : Here c t arg2 arg3 arg4 arg5 arg6 f2 f3 f4 f5 f6 g) :
    iprop(ins c arg2 arg3 arg4 arg5 arg6 f2 f3 f4 f5 f6 ∗ (∃ W, owes (c : Thread nD τ) 0 W)
      ∗ (∃ f, b1P c (Ring.bk 32 t.val) f) ∗ (∃ f, slP c (Ring.sl 4 t.val) f) ∗ vP c (Ring.sl 4 t.val))
     ⊢ wp frame (wpE (defs₀ (F := F)) Variants.none (c : Thread nD τ) none) Set.univ (bodyG arg2 harg2 arg3 harg3 arg4 harg4 arg5 harg5 arg6 harg6 t)
        (fun _ => iprop(ins c arg2 arg3 arg4 arg5 arg6 f2 f3 f4 f5 f6 ∗ (∃ W, owes (c : Thread nD τ) 0 W)
          ∗ (∃ f, vF c (Ring.bk 32 t.val) (Ring.sl 4 t.val) g f))) := by
  have k1 : ¬ k0_cond1 (grid0.coords t) = 1#1 := fun h => absurd ((cond1_iff t).1 h) (by omega)
  have k2 : ¬ k0_cond2 (grid0.coords t) = 1#1 := fun h => absurd ((cond2_iff t).1 h) (by omega)
  have k3 : ¬ k0_cond3 (grid0.coords t) = 1#1 := fun h => absurd ((cond3_iff t).1 h) (by omega)
  dsimp only [bodyG]
  rw [cc0__body_eq_skeleton]
  iintro ⟨⟨H2, H3, H4, H5, H6⟩, ⟨%W, HW⟩, ⟨%f1, HB1⟩, ⟨%fs, HS⟩, HV⟩
  sl_exec
  sl_step
  isplitl [H2 H3 H4 H5 H6]
  · isplitl [H2]; · iexact H2
    isplitl [H3]; · iexact H3
    isplitl [H4]; · iexact H4
    isplitl [H5]; · iexact H5
    iexact H6
  isplitl [HW]; · iexists _; iexact HW
  iexists _
  iapply (vF_landed c _ _ _ _ _ g)
  isplitl [HV]; · iexact HV
  · ipureintro
    intro y
    refine Eq.trans ?_ (hg y)
    sl_unfold_words
    exact slot_read t _ _ _ _ _ _ _ y

set_option maxHeartbeats 4000000 in
/-- The next four: the copy made four steps ago is passed on, on a semaphore still at zero. -/
theorem runB (h4 : 4 ≤ t.val) (h8 : t.val < 8) (hg : Here c t arg2 arg3 arg4 arg5 arg6 f2 f3 f4 f5 f6 g) :
    iprop(ins c arg2 arg3 arg4 arg5 arg6 f2 f3 f4 f5 f6 ∗ (∃ W, owes (c : Thread nD τ) 0 W)
      ∗ (∃ f, b1P c (Ring.bk 32 t.val) f)
      ∗ (∃ f, b2P c (Ring.bk 32 (t.val - 4)) f) ∗ (∃ f, vF c (Ring.bk 32 (t.val - 4)) (Ring.sl 4 t.val) g f)
      ∗ hP c (Ring.sl 4 t.val))
     ⊢ wp frame (wpE (defs₀ (F := F)) Variants.none (c : Thread nD τ) none) Set.univ (bodyG arg2 harg2 arg3 harg3 arg4 harg4 arg5 harg5 arg6 harg6 t)
        (fun _ => iprop(ins c arg2 arg3 arg4 arg5 arg6 f2 f3 f4 f5 f6 ∗ (∃ W, owes (c : Thread nD τ) 0 W)
          ∗ (∃ f, vF c (Ring.bk 32 t.val) (Ring.sl 4 t.val) g f) ∗ hF c (Ring.bk 32 (t.val - 4)) (Ring.sl 4 t.val) g g)) := by
  have k1 : ¬ k0_cond1 (grid0.coords t) = 1#1 := fun h => absurd ((cond1_iff t).1 h) (by omega)
  have k2 : k0_cond2 (grid0.coords t) = 1#1 := (cond2_iff t).2 h4
  have k3 : ¬ k0_cond3 (grid0.coords t) = 1#1 := fun h => absurd ((cond3_iff t).1 h) (by omega)
  dsimp only [bodyG]
  rw [cc0__body_eq_skeleton]
  iintro ⟨⟨H2, H3, H4, H5, H6⟩, ⟨%W, HW⟩, ⟨%f1, HB1⟩, ⟨%fb, HB2⟩, ⟨%fs, HV⟩, HH⟩
  sl_exec
  sl_step
  isplitl [H2 H3 H4 H5 H6]
  · isplitl [H2]; · iexact H2
    isplitl [H3]; · iexact H3
    isplitl [H4]; · iexact H4
    isplitl [H5]; · iexact H5
    iexact H6
  isplitl [HW]; · iexists _; iexact HW
  isplitl [HV]
  · iexists _
    iapply (vF_landed c _ _ _ _ _ g)
    isplitl [HV]; · iexact HV
    · ipureintro
      intro y
      refine Eq.trans ?_ (hg y)
      sl_unfold_words
      exact slot_read t _ _ _ _ _ _ _ y
  iapply (hF_landed c _ _ _ _ _ g)
  isplitl [HH]; · iexact HH
  · ipureintro
    intro y
    sl_unfold_words
    exact blk1_read _ g y

end Run

end Cert.KernelIdeal.Hand
end
-- ==== Proof.IStepD.lean ====
module

public import proofs.«01_k».proof.Proof.IStepB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A block of the second result just landed, from the words it was filled with. -/
theorem b2P_got (c : Dev nD) (u : Fin 32) (f : Buf (Elt F) ((blk2 u).view.loc (c : Thread nD τ))) (T : S2x512x3x256.Idx → Elt F .f32)
    (g : S2x16x1024x3x256.Idx → Elt F .f32) :
    iprop(b2P c u ((blk2 u).view.writes (Elt F) f [⟨Rect.whole S2x512x3x256, T⟩]) ∗ ⌜∀ y, T y = g (inRes u y)⌝) ⊢ (b2P c u g : sProp 𝕄) := by
  iintro ⟨H, %h⟩
  iapply (Entails.of_eq (b2P_landed c u f T g h))
  iexact H
/-- A block of the first result just landed, from the words it was filled with. -/
theorem b1P_got (c : Dev nD) (u : Fin 32) (f : Buf (Elt F) ((blk1 u).view.loc (c : Thread nD τ))) (T : S2x512x3x256.Idx → Elt F .f32)
    (g : S2x16x1024x3x256.Idx → Elt F .f32) :
    iprop(b1P c u ((blk1 u).view.writes (Elt F) f [⟨Rect.whole S2x512x3x256, T⟩]) ∗ ⌜∀ y, T y = g (inRes u y)⌝) ⊢ (b1P c u g : sProp 𝕄) := by
  iintro ⟨H, %h⟩
  iapply (Entails.of_eq (b1P_landed c u f T g h))
  iexact H

section Run
variable (c : Dev nD) (t : Fin grid0.N)
  (arg2 : Memref sig .tc .vmem S1x512x2 .f32) (harg2 : arg2.IsWhole)
  (arg3 : Memref sig .tc .vmem S1x512x4 .f32) (harg3 : arg3.IsWhole)
  (arg4 : Memref sig .tc .vmem S1x512x256 .f32) (harg4 : arg4.IsWhole)
  (arg5 : Memref sig .tc .vmem S8x128 .f32) (harg5 : arg5.IsWhole)
  (arg6 : Memref sig .tc .vmem S8x256 .f32) (harg6 : arg6.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ)))

variable (g : S2x16x1024x3x256.Idx → Elt F .f32)

set_option maxHeartbeats 4000000 in
/-- The last step, which waits for every copy still in flight. -/
theorem runD (h31 : t.val = 31) (hg : Here c t arg2 arg3 arg4 arg5 arg6 f2 f3 f4 f5 f6 g) :
    iprop(ins c arg2 arg3 arg4 arg5 arg6 f2 f3 f4 f5 f6 ∗ (∃ W, owes (c : Thread nD τ) 0 W)
      ∗ (∃ f, b1P c (Ring.bk 32 t.val) f) ∗ (∃ f, b2P c (Ring.bk 32 t.val) f)
      ∗ (∃ f, b2P c (Ring.bk 32 (t.val - 4)) f) ∗ (∃ f, vF c (Ring.bk 32 (t.val - 4)) (Ring.sl 4 t.val) g f) ∗ hF c (Ring.bk 32 (t.val - 8)) (Ring.sl 4 t.val) g g
      ∗ (∃ f, b2P c 28 f) ∗ (∃ f, vF c 28 0 g f) ∗ hF c 24 0 g g
      ∗ (∃ f, b2P c 29 f) ∗ (∃ f, vF c 29 1 g f) ∗ hF c 25 1 g g
      ∗ (∃ f, b2P c 30 f) ∗ (∃ f, vF c 30 2 g f) ∗ hF c 26 2 g g)
     ⊢ wp frame (wpE (defs₀ (F := F)) Variants.none (c : Thread nD τ) none) Set.univ (bodyG arg2 harg2 arg3 harg3 arg4 harg4 arg5 harg5 arg6 harg6 t)
        (fun _ => iprop(ins c arg2 arg3 arg4 arg5 arg6 f2 f3 f4 f5 f6 ∗ (∃ W, owes (c : Thread nD τ) 0 W)
          ∗ (b1P c (Ring.bk 32 (t.val - 8)) g ∗ b2P c (Ring.bk 32 (t.val - 8)) g) ∗ (b1P c (Ring.bk 32 (t.val - 4)) g ∗ b2P c (Ring.bk 32 (t.val - 4)) g) ∗ (b1P c (Ring.bk 32 t.val) g ∗ b2P c (Ring.bk 32 t.val) g) ∗ ((∃ f, slP c (Ring.sl 4 t.val) f) ∗ vP c (Ring.sl 4 t.val) ∗ hP c (Ring.sl 4 t.val))
          ∗ ((b1P c 24 g ∗ b2P c 24 g) ∗ (b1P c 28 g ∗ b2P c 28 g) ∗ ((∃ f, slP c 0 f) ∗ vP c 0 ∗ hP c 0))
          ∗ ((b1P c 25 g ∗ b2P c 25 g) ∗ (b1P c 29 g ∗ b2P c 29 g) ∗ ((∃ f, slP c 1 f) ∗ vP c 1 ∗ hP c 1))
          ∗ ((b1P c 26 g ∗ b2P c 26 g) ∗ (b1P c 30 g ∗ b2P c 30 g) ∗ ((∃ f, slP c 2 f) ∗ vP c 2 ∗ hP c 2)))) := by
  have h4 : 4 ≤ t.val := by omega
  have k1 : k0_cond1 (grid0.coords t) = 1#1 := (cond1_iff t).2 (by omega)
  have k2 : k0_cond2 (grid0.coords t) = 1#1 := (cond2_iff t).2 h4
  have k3 : k0_cond3 (grid0.coords t) = 1#1 := (cond3_iff t).2 h31
  have es : Ring.sl 4 t.val = 3 := by rw [h31]; rfl
  have eb : Ring.bk 32 t.val = 31 := by rw [h31]; rfl
  have hcanonV : (cc0_scratch1.slice (Rect.unit (s := S4) ![3] S1.size inb_S4_S1_3)).squeeze S_ squeezes_S1_S_ = smV (Ring.sl 4 t.val) := smV_congr (by rw [es]; rfl) _
  have hcanonH : (cc0_scratch2.slice (Rect.unit (s := S4) ![3] S1.size inb_S4_S1_3)).squeeze S_ squeezes_S1_S_ = smH (Ring.sl 4 t.val) := smH_congr (by rw [es]; rfl) _
  have hcanonS : (ringM.slice (Rect.unit (s := S4x2x512x3x256) ![3, 0, 0, 0, 0] S1x2x512x3x256.size inb_S4x2x512x3x256_S1x2x512x3x256_3_0_0_0_0) (fun _ => rfl)).squeeze S2x512x3x256 squeezes_S1x2x512x3x256_S2x512x3x256 = rslot (Ring.sl 4 t.val) := rslot_congr (by rw [es]; rfl) _ _
  have hcanonA : (o1M.slice (Rect.unit (s := S2x16x1024x3x256) ![0, 15, 512, 0, 0] S2x1x512x3x256.size inb_S2x16x1024x3x256_S2x1x512x3x256_0_15_512_0_0) (fun _ => rfl)).squeeze S2x512x3x256 squeezes_S2x1x512x3x256_S2x512x3x256 = blk1 (Ring.bk 32 t.val) := blk1_congr (by rw [eb]; rfl) _ _
  have hcanonB : (o2M.slice (Rect.unit (s := S2x16x1024x3x256) ![0, 15, 512, 0, 0] S2x1x512x3x256.size inb_S2x16x1024x3x256_S2x1x512x3x256_0_15_512_0_0) (fun _ => rfl)).squeeze S2x512x3x256 squeezes_S2x1x512x3x256_S2x512x3x256 = blk2 (Ring.bk 32 t.val) := blk2_congr (by rw [eb]; rfl) _ _
  dsimp only [bodyG]
  rw [cc0__body_eq_skeleton]
  iintro ⟨⟨H2, H3, H4, H5, H6⟩, ⟨%W, HW⟩, ⟨%f1, HB1⟩, ⟨%fc, HC⟩, ⟨%fb, HB2⟩, ⟨%fs, HV⟩, HH, ⟨%fc0, HC0⟩, ⟨%fs0, HV0⟩, HH0, ⟨%fc1, HC1⟩, ⟨%fs1, HV1⟩, HH1, ⟨%fc2, HC2⟩, ⟨%fs2, HV2⟩, HH2⟩
  sl_exec
  sl_step
  isplitl [H2 H3 H4 H5 H6]
  · isplitl [H2]; · iexact H2
    isplitl [H3]; · iexact H3
    isplitl [H4]; · iexact H4
    isplitl [H5]; · iexact H5
    iexact H6
  isplitl [HW]; · iexists _; iexact HW
  isplitl [HH_src HH_dst]
  · isplitl [HH_src]; · iexact HH_src
    iexact HH_dst
  isplitl [HV_dst HB2]
  · isplitl [HV_dst]; · iexact HV_dst
    · iapply (b2P_got c _ _ _ g)
      isplitl [HB2]; · iexact HB2
      ipureintro
      intro y
      sl_unfold_words
      exact blk1_read _ g y
  isplitl [HB1 HC]
  · isplitl [HB1]
    · iapply (b1P_got c _ _ _ g)
      isplitl [HB1]; · iexact HB1
      ipureintro
      intro y
      refine Eq.trans ?_ (hg y)
      sl_unfold_words
      exact slot_read t _ _ _ _ _ _ _ y
    · iapply (b2P_got c _ _ _ g)
      isplitl [HC]; · iexact HC
      ipureintro
      intro y
      refine Eq.trans ?_ (hg y)
      sl_unfold_words
      rw [View.read_writes_whole]
      exact slot_read t _ _ _ _ _ _ _ y
  isplitl [HV_src HV HH]
  · isplitl [HV_src]; · iexists _; iexact HV_src
    isplitl [HV]; · iexact HV
    iexact HH
  isplitl [HH0_src HH0_dst HV0_dst HC0 HV0_src HV0 HH0]
  · isplitl [HH0_src HH0_dst]
    · isplitl [HH0_src]; · iexact HH0_src
      iexact HH0_dst
    isplitl [HV0_dst HC0]
    · isplitl [HV0_dst]; · iexact HV0_dst
      · iapply (b2P_got c _ _ _ g)
        isplitl [HC0]; · iexact HC0
        ipureintro
        intro y
        sl_unfold_words
        exact blk1_read _ g y
    isplitl [HV0_src]; · iexists _; iexact HV0_src
    isplitl [HV0]; · iexact HV0
    iexact HH0
  isplitl [HH1_src HH1_dst HV1_dst HC1 HV1_src HV1 HH1]
  · isplitl [HH1_src HH1_dst]
    · isplitl [HH1_src]; · iexact HH1_src
      iexact HH1_dst
    isplitl [HV1_dst HC1]
    · isplitl [HV1_dst]; · iexact HV1_dst
      · iapply (b2P_got c _ _ _ g)
        isplitl [HC1]; · iexact HC1
        ipureintro
        intro y
        sl_unfold_words
        exact blk1_read _ g y
    isplitl [HV1_src]; · iexists _; iexact HV1_src
    isplitl [HV1]; · iexact HV1
    iexact HH1
  isplitl [HH2_src HH2_dst]
  · isplitl [HH2_src]; · iexact HH2_src
    iexact HH2_dst
  isplitl [HV2_dst HC2]
  · isplitl [HV2_dst]; · iexact HV2_dst
    · iapply (b2P_got c _ _ _ g)
      isplitl [HC2]; · iexact HC2
      ipureintro
      intro y
      sl_unfold_words
      exact blk1_read _ g y
  isplitl [HV2_src]; · iexists _; iexact HV2_src
  isplitl [HV2]; · iexact HV2
  iexact HH2

end Run

end Cert.KernelIdeal.Hand
end
-- ==== Proof.ISplit.lean ====
/-
  The two results cut into the 32 steps' blocks, the ring into its four slots, and both joined again.
-/
module

public import proofs.«01_k».proof.Proof.IStepD

public import Idealize.ShloMosaic.Lib.Ring.WriteBehind

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The elements of step `u`'s block of a result, -/
abbrev blkSet (u : Fin 32) : Finset S2x16x1024x3x256.Idx := (Rect.unit (s := S2x16x1024x3x256) (blkOff u) S2x1x512x3x256.size (blkOff_inb u)).set
/-- and of slot `s` of the ring. -/
abbrev slotSet (s : Fin 4) : Finset S4x2x512x3x256.Idx := (Rect.unit (s := S4x2x512x3x256) (slotOff s) S1x2x512x3x256.size (slotOff_inb s)).set

theorem blk1_set (u : Fin 32) : (blk1 u).view.set = blkSet u := (View.set_reshape _ _).trans (View.set_slice_whole _ _)
theorem blk2_set (u : Fin 32) : (blk2 u).view.set = blkSet u := (View.set_reshape _ _).trans (View.set_slice_whole _ _)
theorem rslot_set (s : Fin 4) : (rslot s).view.set = slotSet s := (View.set_reshape _ _).trans (View.set_slice_whole _ _)

/-- An element lies in the block of the step its image row and its half row name. -/
theorem mem_blkSet (u : Fin 32) (y : S2x16x1024x3x256.Idx) : y ∈ blkSet u ↔ 2 * (y 1).val + (y 2).val / 512 = u.val := by
  rw [Rect.mem_set_unit]
  have := u.isLt
  have h0 : (y 0).val < 2 := (y 0).isLt
  have h1 : (y 1).val < 16 := (y 1).isLt
  have h2 : (y 2).val < 1024 := (y 2).isLt
  have h3 : (y 3).val < 3 := (y 3).isLt
  have h4 : (y 4).val < 256 := (y 4).isLt
  constructor
  · intro H
    have a1 : u.val / 2 ≤ (y 1).val ∧ (y 1).val < u.val / 2 + 1 := H 1
    have a2 : u.val % 2 * 512 ≤ (y 2).val ∧ (y 2).val < u.val % 2 * 512 + 512 := H 2
    omega
  · intro H i; fin_cases i
    · show 0 ≤ (y 0).val ∧ (y 0).val < 0 + 2; omega
    · show u.val / 2 ≤ (y 1).val ∧ (y 1).val < u.val / 2 + 1; omega
    · show u.val % 2 * 512 ≤ (y 2).val ∧ (y 2).val < u.val % 2 * 512 + 512; omega
    · show 0 ≤ (y 3).val ∧ (y 3).val < 0 + 3; omega
    · show 0 ≤ (y 4).val ∧ (y 4).val < 0 + 256; omega
theorem mem_slotSet (s : Fin 4) (y : S4x2x512x3x256.Idx) : y ∈ slotSet s ↔ (y 0).val = s.val := by
  rw [Rect.mem_set_unit]
  have h1 : (y 1).val < 2 := (y 1).isLt
  have h2 : (y 2).val < 512 := (y 2).isLt
  have h3 : (y 3).val < 3 := (y 3).isLt
  have h4 : (y 4).val < 256 := (y 4).isLt
  constructor
  · intro H
    have a0 : s.val ≤ (y 0).val ∧ (y 0).val < s.val + 1 := H 0
    omega
  · intro H i; fin_cases i
    · show s.val ≤ (y 0).val ∧ (y 0).val < s.val + 1; omega
    · show 0 ≤ (y 1).val ∧ (y 1).val < 0 + 2; omega
    · show 0 ≤ (y 2).val ∧ (y 2).val < 0 + 512; omega
    · show 0 ≤ (y 3).val ∧ (y 3).val < 0 + 3; omega
    · show 0 ≤ (y 4).val ∧ (y 4).val < 0 + 256; omega

theorem blkSet_disjoint (u u' : Fin 32) (h : u ≠ u') : Disjoint (blkSet u) (blkSet u') :=
  Finset.disjoint_left.mpr fun y h1 h2 => h (Fin.ext (((mem_blkSet u y).1 h1).symm.trans ((mem_blkSet u' y).1 h2)))
theorem slotSet_disjoint (s s' : Fin 4) (h : s ≠ s') : Disjoint (slotSet s) (slotSet s') :=
  Finset.disjoint_left.mpr fun y h1 h2 => h (Fin.ext (((mem_slotSet s y).1 h1).symm.trans ((mem_slotSet s' y).1 h2)))
theorem blkSet_cover : Finset.univ.biUnion blkSet = Finset.univ := Finset.eq_univ_of_forall fun y => by
  have h1 : (y 1).val < 16 := (y 1).isLt
  have h2 : (y 2).val < 1024 := (y 2).isLt
  exact Finset.mem_biUnion.mpr ⟨⟨2 * (y 1).val + (y 2).val / 512, by omega⟩, Finset.mem_univ _, (mem_blkSet _ y).2 rfl⟩
theorem slotSet_cover : Finset.univ.biUnion slotSet = Finset.univ := Finset.eq_univ_of_forall fun y => by
  have h0 : (y 0).val < 4 := (y 0).isLt
  exact Finset.mem_biUnion.mpr ⟨⟨(y 0).val, h0⟩, Finset.mem_univ _, (mem_slotSet _ y).2 rfl⟩

variable (c : Dev nD)

theorem b1P_eq (u : Fin 32) (f) : (b1P c u f : sProp 𝕄) = (((c : Thread nD τ).loc main_v29_0) ↦[blkSet u]{fullShare} f : sProp 𝕄) :=
  congrArg (fun S => (((c : Thread nD τ).loc main_v29_0) ↦[S]{fullShare} f : sProp 𝕄)) (blk1_set u)
theorem b2P_eq (u : Fin 32) (f) : (b2P c u f : sProp 𝕄) = (((c : Thread nD τ).loc main_v29_1) ↦[blkSet u]{fullShare} f : sProp 𝕄) :=
  congrArg (fun S => (((c : Thread nD τ).loc main_v29_1) ↦[S]{fullShare} f : sProp 𝕄)) (blk2_set u)
theorem slP_eq (s : Fin 4) (f) : (slP c s f : sProp 𝕄) = (((c : Thread nD τ).loc cc0_scratch0) ↦[slotSet s]{fullShare} f : sProp 𝕄) :=
  congrArg (fun S => (((c : Thread nD τ).loc cc0_scratch0) ↦[S]{fullShare} f : sProp 𝕄)) (rslot_set s)

/-- Either result whole at anything is its 32 blocks, each at something. -/
theorem out1_split : iprop(∃ f : Buf (Elt F) ((c : Thread nD τ).loc main_v29_0), ((c : Thread nD τ).loc main_v29_0) ↦{fullShare} f)
    ⊢ (bigSep Finset.univ (fun u => iprop(∃ f, b1P c u f)) : sProp 𝕄) :=
  Ring.pieces_split (ℓ := (c : Thread nD τ).loc main_v29_0) blkSet blkSet_disjoint blkSet_cover (fun u f => b1P c u f) (b1P_eq c)
theorem out2_split : iprop(∃ f : Buf (Elt F) ((c : Thread nD τ).loc main_v29_1), ((c : Thread nD τ).loc main_v29_1) ↦{fullShare} f)
    ⊢ (bigSep Finset.univ (fun u => iprop(∃ f, b2P c u f)) : sProp 𝕄) :=
  Ring.pieces_split (ℓ := (c : Thread nD τ).loc main_v29_1) blkSet blkSet_disjoint blkSet_cover (fun u f => b2P c u f) (b2P_eq c)
/-- The ring whole at anything is its four slots, each at something, -/
theorem ring_split : iprop(∃ f : Buf (Elt F) ((c : Thread nD τ).loc cc0_scratch0), ((c : Thread nD τ).loc cc0_scratch0) ↦{fullShare} f)
    ⊢ (bigSep Finset.univ (fun s => iprop(∃ f, slP c s f)) : sProp 𝕄) :=
  Ring.pieces_split (ℓ := (c : Thread nD τ).loc cc0_scratch0) slotSet slotSet_disjoint slotSet_cover (fun s f => slP c s f) (slP_eq c)
/-- and back. -/
theorem ring_join : (bigSep Finset.univ (fun s => iprop(∃ f, slP c s f)) : sProp 𝕄)
    ⊢ iprop(∃ f : Buf (Elt F) ((c : Thread nD τ).loc cc0_scratch0), ((c : Thread nD τ).loc cc0_scratch0) ↦{fullShare} f) :=
  Ring.pieces_join (ℓ := (c : Thread nD τ).loc cc0_scratch0) slotSet slotSet_disjoint slotSet_cover (fun s f => slP c s f) (slP_eq c)
    (fun _ => Classical.choice (Elt.nonempty F .f32))
/-- The 32 blocks of a result, all at `g`, are the result at `g`. -/
theorem out1_join (g : Buf (Elt F) ((c : Thread nD τ).loc main_v29_0)) :
    (bigSep Finset.univ (fun u => b1P c u g) : sProp 𝕄) = (((c : Thread nD τ).loc main_v29_0) ↦{fullShare} g : sProp 𝕄) := by
  rw [Ring.pointsTo_blocks (ℓ := (c : Thread nD τ).loc main_v29_0) blkSet blkSet_disjoint blkSet_cover]
  exact bigSep_congr fun u _ => b1P_eq c u g
theorem out2_join (g : Buf (Elt F) ((c : Thread nD τ).loc main_v29_1)) :
    (bigSep Finset.univ (fun u => b2P c u g) : sProp 𝕄) = (((c : Thread nD τ).loc main_v29_1) ↦{fullShare} g : sProp 𝕄) := by
  rw [Ring.pointsTo_blocks (ℓ := (c : Thread nD τ).loc main_v29_1) blkSet blkSet_disjoint blkSet_cover]
  exact bigSep_congr fun u _ => b2P_eq c u g

end Cert.KernelIdeal.Hand
end
-- ==== Proof.IInv.lean ====
/-
  What the body finds before step `p`: which blocks are untouched, on their way out of the ring, on their way to the
  second result, landed; and which slots and semaphores are idle. And that each step takes it from `p` to `p + 1`.
-/
module

public import proofs.«01_k».proof.Proof.ISplit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Inv
variable (c : Dev nD) (g : S2x16x1024x3x256.Idx → Elt F .f32)

/-- Block `u` before step `p`. -/
def Blk (p : ℕ) (u : Fin 32) : sProp 𝕄 :=
  if p = 32 ∨ u.val + 8 < p then iprop(b1P c u g ∗ b2P c u g)
  else if p ≤ u.val then iprop((∃ f, b1P c u f) ∗ (∃ f, b2P c u f))
  else if p ≤ u.val + 4 then iprop((∃ f, vF c u (Ring.sl 4 u.val) g f) ∗ (∃ f, b2P c u f))
  else hF c u (Ring.sl 4 u.val) g g
/-- Slot `s` before step `p`. -/
def Slt (p : ℕ) (s : Fin 4) : sProp 𝕄 :=
  if p = 32 ∨ p ≤ s.val then iprop((∃ f, slP c s f) ∗ vP c s ∗ hP c s)
  else if p ≤ s.val + 4 then hP c s
  else iprop(emp)
/-- All of it. -/
def Inv (p : ℕ) : sProp 𝕄 := iprop(bigSep Finset.univ (Blk c g p) ∗ bigSep Finset.univ (Slt c p))

variable {c g}
theorem Blk_done {p : ℕ} {u : Fin 32} (h : p = 32 ∨ u.val + 8 < p) : Blk c g p u = iprop(b1P c u g ∗ b2P c u g) := if_pos h
theorem Blk_ahead {p : ℕ} {u : Fin 32} (h : p ≤ u.val) : Blk c g p u = iprop((∃ f, b1P c u f) ∗ (∃ f, b2P c u f)) := by
  have := u.isLt
  unfold Blk; rw [if_neg (by omega), if_pos h]
theorem Blk_v {p : ℕ} {u : Fin 32} (h : u.val < p) (h' : p ≤ u.val + 4) (hp : p < 32) : Blk c g p u = iprop((∃ f, vF c u (Ring.sl 4 u.val) g f) ∗ (∃ f, b2P c u f)) := by
  unfold Blk; rw [if_neg (by omega), if_neg (by omega), if_pos h']
theorem Blk_h {p : ℕ} {u : Fin 32} (h : u.val + 4 < p) (h' : p ≤ u.val + 8) (hp : p < 32) : Blk c g p u = hF c u (Ring.sl 4 u.val) g g := by
  unfold Blk; rw [if_neg (by omega), if_neg (by omega), if_neg (by omega)]
theorem Blk_same {p : ℕ} (hp : p + 1 < 32) {u : Fin 32} (h : u.val ≠ p) (h4 : u.val + 4 ≠ p) (h8 : u.val + 8 ≠ p) : Blk c g (p + 1) u = Blk c g p u := by
  by_cases a : u.val + 8 < p
  · rw [Blk_done (.inr a), Blk_done (.inr (by omega))]
  by_cases b : p ≤ u.val
  · rw [Blk_ahead b, Blk_ahead (by omega)]
  by_cases d : p ≤ u.val + 4
  · rw [Blk_v (by omega) d (by omega), Blk_v (by omega) (by omega) hp]
  · rw [Blk_h (p := p) (by omega) (by omega) (by omega), Blk_h (p := p + 1) (by omega) (by omega) hp]
theorem Slt_free {p : ℕ} {s : Fin 4} (h : p = 32 ∨ p ≤ s.val) : Slt c p s = (iprop((∃ f, slP c s f) ∗ vP c s ∗ hP c s) : sProp 𝕄) := if_pos h
theorem Slt_h {p : ℕ} {s : Fin 4} (h : s.val < p) (h' : p ≤ s.val + 4) : Slt c p s = (hP c s : sProp 𝕄) := by
  have := s.isLt
  unfold Slt; rw [if_neg (by omega), if_pos h']
theorem Slt_busy {p : ℕ} {s : Fin 4} (h : s.val + 4 < p) (hp : p < 32) : Slt c p s = (iprop(emp) : sProp 𝕄) := by
  unfold Slt; rw [if_neg (by omega), if_neg (by omega)]
theorem Slt_same {p : ℕ} (hp : p + 1 < 32) {s : Fin 4} (h : s.val ≠ p) (h4 : s.val + 4 ≠ p) : Slt c (p + 1) s = (Slt c p s : sProp 𝕄) := by
  by_cases a : p ≤ s.val
  · rw [Slt_free (.inr a), Slt_free (.inr (by omega))]
  by_cases b : p ≤ s.val + 4
  · rw [Slt_h (by omega) b, Slt_h (by omega) (by omega)]
  · rw [Slt_busy (p := p) (by omega) (by omega), Slt_busy (p := p + 1) (by omega) hp]

theorem bk32 {k : ℕ} (h : k < 32) : (Ring.bk 32 k).val = k := Ring.bk_val h
theorem sl_bk {k : ℕ} (h : k < 32) : Ring.sl 4 (Ring.bk 32 k).val = Ring.sl 4 k := by rw [bk32 h]
theorem sl_sub4 {k : ℕ} (h4 : 4 ≤ k) : Ring.sl 4 (k - 4) = Ring.sl 4 k := by
  conv_rhs => rw [← Nat.sub_add_cancel h4, Ring.sl_add]
theorem sl_val (k : ℕ) : (Ring.sl 4 k).val = k % 4 := rfl

/-! ### The first four steps -/

/-- What such a step leaves alone. -/
def RestA (c : Dev nD) (g : S2x16x1024x3x256.Idx → Elt F .f32) (p : ℕ) : sProp 𝕄 :=
  iprop((∃ f, b2P c (Ring.bk 32 p) f) ∗ hP c (Ring.sl 4 p)
    ∗ bigSep (Finset.univ.erase (Ring.bk 32 p)) (Blk c g p) ∗ bigSep (Finset.univ.erase (Ring.sl 4 p)) (Slt c p))
theorem openA {p : ℕ} (h4 : p < 4) : Inv c g p ⊢ iprop((∃ f, b1P c (Ring.bk 32 p) f) ∗ (∃ f, slP c (Ring.sl 4 p) f) ∗ vP c (Ring.sl 4 p) ∗ RestA c g p) := by
  unfold Inv RestA
  rw [Ring.bigSep_take (Finset.mem_univ (Ring.bk 32 p)) (Blk c g p), Ring.bigSep_take (Finset.mem_univ (Ring.sl 4 p)) (Slt c p),
    Blk_ahead (le_of_eq (bk32 (by omega)).symm), Slt_free (.inr (by rw [sl_val]; omega))]
  iintro ⟨⟨⟨HB1, HB2⟩, HB⟩, ⟨HS, HV, HH⟩, HR⟩
  isplitl [HB1]; · iexact HB1
  isplitl [HS]; · iexact HS
  isplitl [HV]; · iexact HV
  isplitl [HB2]; · iexact HB2
  isplitl [HH]; · iexact HH
  isplitl [HB]; · iexact HB
  iexact HR
theorem closeA {p : ℕ} (h4 : p < 4) : iprop((∃ f, vF c (Ring.bk 32 p) (Ring.sl 4 p) g f) ∗ RestA c g p) ⊢ Inv c g (p + 1) := by
  unfold Inv RestA
  rw [Ring.bigSep_take (Finset.mem_univ (Ring.bk 32 p)) (Blk c g (p + 1)), Ring.bigSep_take (Finset.mem_univ (Ring.sl 4 p)) (Slt c (p + 1)),
    Blk_v (by rw [bk32 (by omega)]; omega) (by rw [bk32 (by omega)]; omega) (by omega), Slt_h (by rw [sl_val]; omega) (by rw [sl_val]; omega),
    sl_bk (by omega),
    bigSep_congr (s := Finset.univ.erase (Ring.bk 32 p)) (fun u hu => Blk_same (c := c) (g := g) (p := p) (u := u) (by omega)
      (fun e => (Finset.ne_of_mem_erase hu) (Fin.ext (e.trans (bk32 (by omega)).symm))) (by omega) (by omega)),
    bigSep_congr (s := Finset.univ.erase (Ring.sl 4 p)) (fun s hs => Slt_same (c := c) (p := p) (s := s) (by omega)
      (fun e => (Finset.ne_of_mem_erase hs) (Fin.ext (by rw [sl_val]; omega))) (by omega))]
  iintro ⟨HV, HB2, HH, HB, HR⟩
  isplitl [HV HB2 HB]
  · isplitl [HV HB2]
    · isplitl [HV]; · iexact HV
      iexact HB2
    iexact HB
  isplitl [HH]; · iexact HH
  iexact HR

/-! ### The next four -/

/-- What such a step leaves alone. -/
def RestB (c : Dev nD) (g : S2x16x1024x3x256.Idx → Elt F .f32) (p : ℕ) : sProp 𝕄 :=
  iprop((∃ f, b2P c (Ring.bk 32 p) f)
    ∗ bigSep ((Finset.univ.erase (Ring.bk 32 p)).erase (Ring.bk 32 (p - 4))) (Blk c g p) ∗ bigSep (Finset.univ.erase (Ring.sl 4 p)) (Slt c p))
theorem ne_bk {a b : ℕ} (ha : a < 32) (hb : b < 32) (h : a ≠ b) : Ring.bk 32 a ≠ Ring.bk 32 b := fun e => h (by
  have := congrArg Fin.val e
  rwa [bk32 ha, bk32 hb] at this)
theorem ne_of_ne_bk {u : Fin 32} {a : ℕ} (ha : a < 32) (h : u ≠ Ring.bk 32 a) : u.val ≠ a := fun e => h (Fin.ext (e.trans (bk32 ha).symm))
theorem openB {p : ℕ} (h4 : 4 ≤ p) (h8 : p < 8) : Inv c g p ⊢ iprop((∃ f, b1P c (Ring.bk 32 p) f) ∗ (∃ f, b2P c (Ring.bk 32 (p - 4)) f)
    ∗ (∃ f, vF c (Ring.bk 32 (p - 4)) (Ring.sl 4 p) g f) ∗ hP c (Ring.sl 4 p) ∗ RestB c g p) := by
  unfold Inv RestB
  rw [Ring.bigSep_take (Finset.mem_univ (Ring.bk 32 p)) (Blk c g p),
    Ring.bigSep_take (Finset.mem_erase.mpr ⟨ne_bk (a := p - 4) (b := p) (by omega) (by omega) (by omega), Finset.mem_univ _⟩) (Blk c g p),
    Ring.bigSep_take (Finset.mem_univ (Ring.sl 4 p)) (Slt c p),
    Blk_ahead (le_of_eq (bk32 (by omega)).symm), Blk_v (u := Ring.bk 32 (p - 4)) (by rw [bk32 (by omega)]; omega) (by rw [bk32 (by omega)]; omega) (by omega),
    Slt_h (by rw [sl_val]; omega) (by rw [sl_val]; omega), sl_bk (by omega), sl_sub4 h4]
  iintro ⟨⟨⟨HB1, HB2⟩, ⟨HV, HC⟩, HB⟩, HH, HR⟩
  isplitl [HB1]; · iexact HB1
  isplitl [HC]; · iexact HC
  isplitl [HV]; · iexact HV
  isplitl [HH]; · iexact HH
  isplitl [HB2]; · iexact HB2
  isplitl [HB]; · iexact HB
  iexact HR
theorem closeB {p : ℕ} (h4 : 4 ≤ p) (h8 : p < 8) : iprop((∃ f, vF c (Ring.bk 32 p) (Ring.sl 4 p) g f) ∗ hF c (Ring.bk 32 (p - 4)) (Ring.sl 4 p) g g ∗ RestB c g p) ⊢ Inv c g (p + 1) := by
  unfold Inv RestB
  rw [Ring.bigSep_take (Finset.mem_univ (Ring.bk 32 p)) (Blk c g (p + 1)),
    Ring.bigSep_take (Finset.mem_erase.mpr ⟨ne_bk (a := p - 4) (b := p) (by omega) (by omega) (by omega), Finset.mem_univ _⟩) (Blk c g (p + 1)),
    Ring.bigSep_take (Finset.mem_univ (Ring.sl 4 p)) (Slt c (p + 1)),
    Blk_v (u := Ring.bk 32 p) (by rw [bk32 (by omega)]; omega) (by rw [bk32 (by omega)]; omega) (by omega),
    Blk_h (u := Ring.bk 32 (p - 4)) (by rw [bk32 (by omega)]; omega) (by rw [bk32 (by omega)]; omega) (by omega),
    Slt_busy (by rw [sl_val]; omega) (by omega), sl_bk (by omega), sl_bk (by omega), sl_sub4 h4,
    bigSep_congr (s := (Finset.univ.erase (Ring.bk 32 p)).erase (Ring.bk 32 (p - 4))) (fun u hu => Blk_same (c := c) (g := g) (p := p) (u := u) (by omega)
      (ne_of_ne_bk (by omega) (Finset.ne_of_mem_erase (Finset.mem_of_mem_erase hu)))
      (by have := ne_of_ne_bk (by omega) (Finset.ne_of_mem_erase hu); omega) (by omega)),
    bigSep_congr (s := Finset.univ.erase (Ring.sl 4 p)) (fun s hs => Slt_same (c := c) (p := p) (s := s) (by omega) (by have := s.isLt; omega)
      (fun e => (Finset.ne_of_mem_erase hs) (Fin.ext (by rw [sl_val]; omega))))]
  iintro ⟨HV, HH, HB2, HB, HR⟩
  isplitl [HV HB2 HH HB]
  · isplitl [HV HB2]
    · isplitl [HV]; · iexact HV
      iexact HB2
    isplitl [HH]; · iexact HH
    iexact HB
  isplitr
  · iempintro
  iexact HR

/-! ### The steps from the ninth on -/

/-- What such a step leaves alone. -/
def RestC (c : Dev nD) (g : S2x16x1024x3x256.Idx → Elt F .f32) (p : ℕ) : sProp 𝕄 :=
  iprop((∃ f, b2P c (Ring.bk 32 p) f)
    ∗ bigSep (((Finset.univ.erase (Ring.bk 32 p)).erase (Ring.bk 32 (p - 4))).erase (Ring.bk 32 (p - 8))) (Blk c g p) ∗ bigSep Finset.univ (Slt c p))
theorem mem_two {p : ℕ} (h8 : 8 ≤ p) (hp : p < 32) : Ring.bk 32 (p - 8) ∈ (Finset.univ.erase (Ring.bk 32 p)).erase (Ring.bk 32 (p - 4)) :=
  Finset.mem_erase.mpr ⟨ne_bk (by omega) (by omega) (by omega), Finset.mem_erase.mpr ⟨ne_bk (by omega) (by omega) (by omega), Finset.mem_univ _⟩⟩
theorem openC {p : ℕ} (h8 : 8 ≤ p) (hp : p < 32) : Inv c g p ⊢ iprop((∃ f, b1P c (Ring.bk 32 p) f) ∗ (∃ f, b2P c (Ring.bk 32 (p - 4)) f)
    ∗ (∃ f, vF c (Ring.bk 32 (p - 4)) (Ring.sl 4 p) g f) ∗ hF c (Ring.bk 32 (p - 8)) (Ring.sl 4 p) g g ∗ RestC c g p) := by
  unfold Inv RestC
  rw [Ring.bigSep_take (Finset.mem_univ (Ring.bk 32 p)) (Blk c g p),
    Ring.bigSep_take (Finset.mem_erase.mpr ⟨ne_bk (a := p - 4) (b := p) (by omega) (by omega) (by omega), Finset.mem_univ _⟩) (Blk c g p),
    Ring.bigSep_take (mem_two h8 hp) (Blk c g p),
    Blk_ahead (le_of_eq (bk32 (by omega)).symm), Blk_v (u := Ring.bk 32 (p - 4)) (by rw [bk32 (by omega)]; omega) (by rw [bk32 (by omega)]; omega) (by omega),
    Blk_h (u := Ring.bk 32 (p - 8)) (by rw [bk32 (by omega)]; omega) (by rw [bk32 (by omega)]; omega) (by omega),
    sl_bk (by omega), sl_bk (by omega), sl_sub4 (by omega),
    show Ring.sl 4 (p - 8) = Ring.sl 4 p from by rw [show p - 8 = p - 4 - 4 from by omega, sl_sub4 (by omega), sl_sub4 (by omega)]]
  iintro ⟨⟨⟨HB1, HB2⟩, ⟨HV, HC⟩, HH, HB⟩, HR⟩
  isplitl [HB1]; · iexact HB1
  isplitl [HC]; · iexact HC
  isplitl [HV]; · iexact HV
  isplitl [HH]; · iexact HH
  isplitl [HB2]; · iexact HB2
  isplitl [HB]; · iexact HB
  iexact HR
theorem closeC {p : ℕ} (h8 : 8 ≤ p) (hp : p + 1 < 32) : iprop((∃ f, vF c (Ring.bk 32 p) (Ring.sl 4 p) g f) ∗ hF c (Ring.bk 32 (p - 4)) (Ring.sl 4 p) g g
    ∗ b1P c (Ring.bk 32 (p - 8)) g ∗ b2P c (Ring.bk 32 (p - 8)) g ∗ RestC c g p) ⊢ Inv c g (p + 1) := by
  unfold Inv RestC
  rw [Ring.bigSep_take (Finset.mem_univ (Ring.bk 32 p)) (Blk c g (p + 1)),
    Ring.bigSep_take (Finset.mem_erase.mpr ⟨ne_bk (a := p - 4) (b := p) (by omega) (by omega) (by omega), Finset.mem_univ _⟩) (Blk c g (p + 1)),
    Ring.bigSep_take (mem_two h8 (by omega)) (Blk c g (p + 1)),
    Blk_v (u := Ring.bk 32 p) (by rw [bk32 (by omega)]; omega) (by rw [bk32 (by omega)]; omega) (by omega),
    Blk_h (u := Ring.bk 32 (p - 4)) (by rw [bk32 (by omega)]; omega) (by rw [bk32 (by omega)]; omega) (by omega),
    Blk_done (u := Ring.bk 32 (p - 8)) (.inr (by rw [bk32 (by omega)]; omega)),
    sl_bk (by omega), sl_bk (by omega), sl_sub4 (by omega),
    bigSep_congr (s := ((Finset.univ.erase (Ring.bk 32 p)).erase (Ring.bk 32 (p - 4))).erase (Ring.bk 32 (p - 8))) (fun u hu => Blk_same (c := c) (g := g) (p := p) (u := u) (by omega)
      (ne_of_ne_bk (by omega) (Finset.ne_of_mem_erase (Finset.mem_of_mem_erase (Finset.mem_of_mem_erase hu))))
      (by have := ne_of_ne_bk (by omega) (Finset.ne_of_mem_erase (Finset.mem_of_mem_erase hu)); omega)
      (by have := ne_of_ne_bk (by omega) (Finset.ne_of_mem_erase hu); omega)),
    bigSep_congr (s := Finset.univ) (fun s _ => Slt_same (c := c) (p := p) (s := s) (by omega) (by have := s.isLt; omega) (by have := s.isLt; omega))]
  iintro ⟨HV, HH, HD1, HD2, HB2, HB, HR⟩
  isplitl [HV HB2 HH HD1 HD2 HB]
  · isplitl [HV HB2]
    · isplitl [HV]; · iexact HV
      iexact HB2
    isplitl [HH]; · iexact HH
    isplitl [HD1 HD2]
    · isplitl [HD1]; · iexact HD1
      iexact HD2
    iexact HB
  iexact HR

/-! ### The last step -/

/-- The blocks the last step does not touch: they have landed. -/
def Low : Finset (Fin 32) := ((((((((Finset.univ.erase 31).erase 27).erase 23).erase 28).erase 24).erase 29).erase 25).erase 30).erase 26
theorem take9 (Φ : Fin 32 → sProp 𝕄) : bigSep Finset.univ Φ = iprop(Φ 31 ∗ Φ 27 ∗ Φ 23 ∗ Φ 28 ∗ Φ 24 ∗ Φ 29 ∗ Φ 25 ∗ Φ 30 ∗ Φ 26 ∗ bigSep Low Φ) := by
  unfold Low
  rw [Ring.bigSep_take (b := (31 : Fin 32)) (by decide) Φ, Ring.bigSep_take (b := (27 : Fin 32)) (by decide) Φ, Ring.bigSep_take (b := (23 : Fin 32)) (by decide) Φ,
    Ring.bigSep_take (b := (28 : Fin 32)) (by decide) Φ, Ring.bigSep_take (b := (24 : Fin 32)) (by decide) Φ, Ring.bigSep_take (b := (29 : Fin 32)) (by decide) Φ,
    Ring.bigSep_take (b := (25 : Fin 32)) (by decide) Φ, Ring.bigSep_take (b := (30 : Fin 32)) (by decide) Φ, Ring.bigSep_take (b := (26 : Fin 32)) (by decide) Φ]
theorem take4 (Φ : Fin 4 → sProp 𝕄) : bigSep Finset.univ Φ = iprop(Φ 3 ∗ Φ 0 ∗ Φ 1 ∗ Φ 2 ∗ bigSep ((((Finset.univ.erase 3).erase 0).erase 1).erase 2) Φ) := by
  rw [Ring.bigSep_take (b := (3 : Fin 4)) (by decide) Φ, Ring.bigSep_take (b := (0 : Fin 4)) (by decide) Φ, Ring.bigSep_take (b := (1 : Fin 4)) (by decide) Φ,
    Ring.bigSep_take (b := (2 : Fin 4)) (by decide) Φ]
theorem low_done (u : Fin 32) (h : u ∈ Low) : u.val + 8 < 31 := by
  revert u; decide
theorem slt31 : bigSep Finset.univ (Slt c 31) = (iprop(emp) : sProp 𝕄) := by
  rw [bigSep_congr (s := Finset.univ) (fun s _ => Slt_busy (c := c) (p := 31) (s := s) (by have := s.isLt; omega) (by omega))]
  exact bigSep_emp_const _
theorem slt_none (p : ℕ) : iprop(emp) ⊢ bigSep ((((Finset.univ.erase 3).erase 0).erase 1).erase 2) (Slt c p : Fin 4 → sProp 𝕄) := by
  rw [bigSep_congr (s := (((Finset.univ.erase (3 : Fin 4)).erase 0).erase 1).erase 2) (Ψ := fun _ => (iprop(emp) : sProp 𝕄)) (fun s hs => absurd hs (by revert s; decide))]
  rw [show bigSep ((((Finset.univ.erase (3 : Fin 4)).erase 0).erase 1).erase 2) (fun _ => (iprop(emp) : sProp 𝕄)) = iprop(emp) from bigSep_emp_const _]
theorem Blk_v31 {u : Fin 32} {s : Fin 4} (h : 27 ≤ u.val) (h' : u.val < 31) (e : Ring.sl 4 u.val = s) : Blk c g 31 u = iprop((∃ f, vF c u s g f) ∗ (∃ f, b2P c u f)) := by
  subst e; exact Blk_v h' (by omega) (by omega)
theorem Blk_h31 {u : Fin 32} {s : Fin 4} (h : 23 ≤ u.val) (h' : u.val < 27) (e : Ring.sl 4 u.val = s) : Blk c g 31 u = hF c u s g g := by
  subst e; exact Blk_h (by omega) (by omega) (by omega)
theorem openD : Inv c g 31 ⊢ iprop(((∃ f, b1P c 31 f) ∗ (∃ f, b2P c 31 f))
    ∗ ((∃ f, vF c 27 3 g f) ∗ (∃ f, b2P c 27 f)) ∗ hF c 23 3 g g
    ∗ ((∃ f, vF c 28 0 g f) ∗ (∃ f, b2P c 28 f)) ∗ hF c 24 0 g g
    ∗ ((∃ f, vF c 29 1 g f) ∗ (∃ f, b2P c 29 f)) ∗ hF c 25 1 g g
    ∗ ((∃ f, vF c 30 2 g f) ∗ (∃ f, b2P c 30 f)) ∗ hF c 26 2 g g ∗ bigSep Low (Blk c g 32)) := by
  unfold Inv
  rw [take9, slt31, bigSep_congr (s := Low) (Ψ := Blk c g 32) (fun u hu => (Blk_done (.inr (low_done u hu))).trans (Blk_done (.inl rfl)).symm),
    Blk_ahead (c := c) (g := g) (p := 31) (u := 31) (by decide),
    Blk_v31 (c := c) (g := g) (u := 27) (s := 3) (by decide) (by decide) (by decide), Blk_v31 (c := c) (g := g) (u := 28) (s := 0) (by decide) (by decide) (by decide),
    Blk_v31 (c := c) (g := g) (u := 29) (s := 1) (by decide) (by decide) (by decide), Blk_v31 (c := c) (g := g) (u := 30) (s := 2) (by decide) (by decide) (by decide),
    Blk_h31 (c := c) (g := g) (u := 23) (s := 3) (by decide) (by decide) (by decide), Blk_h31 (c := c) (g := g) (u := 24) (s := 0) (by decide) (by decide) (by decide),
    Blk_h31 (c := c) (g := g) (u := 25) (s := 1) (by decide) (by decide) (by decide), Blk_h31 (c := c) (g := g) (u := 26) (s := 2) (by decide) (by decide) (by decide)]
  iintro ⟨H, HE⟩
  iexact H
theorem closeD : iprop((b1P c 23 g ∗ b2P c 23 g) ∗ (b1P c 27 g ∗ b2P c 27 g) ∗ (b1P c 31 g ∗ b2P c 31 g) ∗ ((∃ f, slP c 3 f) ∗ vP c 3 ∗ hP c 3)
    ∗ ((b1P c 24 g ∗ b2P c 24 g) ∗ (b1P c 28 g ∗ b2P c 28 g) ∗ ((∃ f, slP c 0 f) ∗ vP c 0 ∗ hP c 0))
    ∗ ((b1P c 25 g ∗ b2P c 25 g) ∗ (b1P c 29 g ∗ b2P c 29 g) ∗ ((∃ f, slP c 1 f) ∗ vP c 1 ∗ hP c 1))
    ∗ ((b1P c 26 g ∗ b2P c 26 g) ∗ (b1P c 30 g ∗ b2P c 30 g) ∗ ((∃ f, slP c 2 f) ∗ vP c 2 ∗ hP c 2)) ∗ bigSep Low (Blk c g 32)) ⊢ Inv c g 32 := by
  unfold Inv
  rw [take9, take4]
  simp only [Blk_done (c := c) (g := g) (p := 32) (.inl rfl), Slt_free (c := c) (p := 32) (.inl rfl)]
  iintro ⟨H23, H27, H31, S3, ⟨H24, H28, S0⟩, ⟨H25, H29, S1⟩, ⟨H26, H30, S2⟩, HL⟩
  isplitl [H23 H27 H31 H24 H28 H25 H29 H26 H30 HL]
  · isplitl [H31]; · iexact H31
    isplitl [H27]; · iexact H27
    isplitl [H23]; · iexact H23
    isplitl [H28]; · iexact H28
    isplitl [H24]; · iexact H24
    isplitl [H29]; · iexact H29
    isplitl [H25]; · iexact H25
    isplitl [H30]; · iexact H30
    isplitl [H26]; · iexact H26
    iexact HL
  isplitl [S3]; · iexact S3
  isplitl [S0]; · iexact S0
  isplitl [S1]; · iexact S1
  isplitl [S2]; · iexact S2
  iapply slt_none
  iempintro

end Inv

end Cert.KernelIdeal.Hand
end
-- ==== Proof.IBody.lean ====
/-
  One step of the body, from what it finds to what it leaves.
-/
module

public import proofs.«01_k».proof.Proof.IInv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Run
variable (c : Dev nD) (t : Fin grid0.N)
  (arg2 : Memref sig .tc .vmem S1x512x2 .f32) (harg2 : arg2.IsWhole)
  (arg3 : Memref sig .tc .vmem S1x512x4 .f32) (harg3 : arg3.IsWhole)
  (arg4 : Memref sig .tc .vmem S1x512x256 .f32) (harg4 : arg4.IsWhole)
  (arg5 : Memref sig .tc .vmem S8x128 .f32) (harg5 : arg5.IsWhole)
  (arg6 : Memref sig .tc .vmem S8x256 .f32) (harg6 : arg6.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ)))

variable (g : S2x16x1024x3x256.Idx → Elt F .f32)

/-- The step at `t` turns the state before `t` into the state before `t + 1`, leaving the staged blocks as they were. -/
theorem run_step (hg : Here c t arg2 arg3 arg4 arg5 arg6 f2 f3 f4 f5 f6 g) :
    iprop((ins c arg2 arg3 arg4 arg5 arg6 f2 f3 f4 f5 f6) ∗ (∃ W, owes (c : Thread nD τ) 0 W) ∗ Inv c g t.val)
     ⊢ wp frame (wpE (defs₀ (F := F)) Variants.none (c : Thread nD τ) none) Set.univ (bodyG arg2 harg2 arg3 harg3 arg4 harg4 arg5 harg5 arg6 harg6 t)
        (fun _ => iprop((ins c arg2 arg3 arg4 arg5 arg6 f2 f3 f4 f5 f6) ∗ (∃ W, owes (c : Thread nD τ) 0 W) ∗ Inv c g (t.val + 1))) := by
  have ht : t.val < 32 := lt_of_lt_of_eq t.isLt (by decide)
  by_cases h4 : t.val < 4
  · iintro ⟨Hi, HW, HI⟩
    ihave HI := (openA (c := c) (g := g) h4) $$ HI
    icases HI with ⟨HB, HS, HV, HR⟩
    iapply (wp_wand_r frame (wpE (defs₀ (F := F)) Variants.none (c : Thread nD τ) none) Set.univ)
    isplitl [Hi HW HB HS HV]
    · iapply (runA c t arg2 harg2 arg3 harg3 arg4 harg4 arg5 harg5 arg6 harg6 f2 f3 f4 f5 f6 g h4 hg)
      isplitl [Hi]; · iexact Hi
      isplitl [HW]; · iexact HW
      isplitl [HB]; · iexact HB
      isplitl [HS]; · iexact HS
      iexact HV
    · iintro %_ ⟨Hi, HW, HF⟩
      isplitl [Hi]; · iexact Hi
      isplitl [HW]; · iexact HW
      iapply (closeA (c := c) (g := g) h4)
      isplitl [HF]; · iexact HF
      iexact HR
  by_cases h8 : t.val < 8
  · iintro ⟨Hi, HW, HI⟩
    ihave HI := (openB (c := c) (g := g) (by omega) h8) $$ HI
    icases HI with ⟨HB, HS, HV, HH, HR⟩
    iapply (wp_wand_r frame (wpE (defs₀ (F := F)) Variants.none (c : Thread nD τ) none) Set.univ)
    isplitl [Hi HW HB HS HV HH]
    · iapply (runB c t arg2 harg2 arg3 harg3 arg4 harg4 arg5 harg5 arg6 harg6 f2 f3 f4 f5 f6 g (by omega) h8 hg)
      isplitl [Hi]; · iexact Hi
      isplitl [HW]; · iexact HW
      isplitl [HB]; · iexact HB
      isplitl [HS]; · iexact HS
      isplitl [HV]; · iexact HV
      iexact HH
    · iintro %_ ⟨Hi, HW, HF, HH⟩
      isplitl [Hi]; · iexact Hi
      isplitl [HW]; · iexact HW
      iapply (closeB (c := c) (g := g) (by omega) h8)
      isplitl [HF]; · iexact HF
      isplitl [HH]; · iexact HH
      iexact HR
  by_cases h31 : t.val = 31
  · have e31 : Ring.bk 32 t.val = 31 := by rw [h31]; rfl
    have e27 : Ring.bk 32 (t.val - 4) = 27 := by rw [h31]; rfl
    have e23 : Ring.bk 32 (t.val - 8) = 23 := by rw [h31]; rfl
    have e3 : Ring.sl 4 t.val = 3 := by rw [h31]; rfl
    have hr := runD c t arg2 harg2 arg3 harg3 arg4 harg4 arg5 harg5 arg6 harg6 f2 f3 f4 f5 f6 g h31 hg
    rw [e31, e27, e23, e3] at hr
    rw [h31]
    iintro ⟨Hi, HW, HI⟩
    ihave HI := (openD (c := c) (g := g)) $$ HI
    icases HI with ⟨⟨B1, B2⟩, ⟨V27, C27⟩, H23, ⟨V28, C28⟩, H24, ⟨V29, C29⟩, H25, ⟨V30, C30⟩, H26, HR⟩
    iapply (wp_wand_r frame (wpE (defs₀ (F := F)) Variants.none (c : Thread nD τ) none) Set.univ)
    isplitl [Hi HW B1 B2 V27 C27 H23 V28 C28 H24 V29 C29 H25 V30 C30 H26]
    · iapply hr
      isplitl [Hi]; · iexact Hi
      isplitl [HW]; · iexact HW
      isplitl [B1]; · iexact B1
      isplitl [B2]; · iexact B2
      isplitl [C27]; · iexact C27
      isplitl [V27]; · iexact V27
      isplitl [H23]; · iexact H23
      isplitl [C28]; · iexact C28
      isplitl [V28]; · iexact V28
      isplitl [H24]; · iexact H24
      isplitl [C29]; · iexact C29
      isplitl [V29]; · iexact V29
      isplitl [H25]; · iexact H25
      isplitl [C30]; · iexact C30
      isplitl [V30]; · iexact V30
      iexact H26
    · iintro %_ ⟨Hi, HW, HA, HB, HC, HS, H0, H1, H2⟩
      isplitl [Hi]; · iexact Hi
      isplitl [HW]; · iexact HW
      iapply (closeD (c := c) (g := g))
      isplitl [HA]; · iexact HA
      isplitl [HB]; · iexact HB
      isplitl [HC]; · iexact HC
      isplitl [HS]; · iexact HS
      isplitl [H0]; · iexact H0
      isplitl [H1]; · iexact H1
      isplitl [H2]; · iexact H2
      iexact HR
  · iintro ⟨Hi, HW, HI⟩
    ihave HI := (openC (c := c) (g := g) (by omega) ht) $$ HI
    icases HI with ⟨HB, HS, HV, HH, HR⟩
    iapply (wp_wand_r frame (wpE (defs₀ (F := F)) Variants.none (c : Thread nD τ) none) Set.univ)
    isplitl [Hi HW HB HS HV HH]
    · iapply (runC c t arg2 harg2 arg3 harg3 arg4 harg4 arg5 harg5 arg6 harg6 f2 f3 f4 f5 f6 g (by omega) h31 hg)
      isplitl [Hi]; · iexact Hi
      isplitl [HW]; · iexact HW
      isplitl [HB]; · iexact HB
      isplitl [HS]; · iexact HS
      isplitl [HV]; · iexact HV
      iexact HH
    · iintro %_ ⟨Hi, HW, HF, HH, D1, D2⟩
      isplitl [Hi]; · iexact Hi
      isplitl [HW]; · iexact HW
      iapply (closeC (c := c) (g := g) (by omega) (by omega))
      isplitl [HF]; · iexact HF
      isplitl [HH]; · iexact HH
      isplitl [D1]; · iexact D1
      isplitl [D2]; · iexact D2
      iexact HR

end Run

end Cert.KernelIdeal.Hand
end
-- ==== Proof.IFrame.lean ====
/-
  The launch: the two results of the region hold, block by block, the words each step computes from its staged blocks;
  every argument array ends as it was, every counter at zero.
-/
module

public import proofs.«01_k».proof.Proof.IBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-! ## The results' words -/

/-- The step whose block an element of a result lies in, and where in the block. -/
def stepOf (i : S2x16x1024x3x256.Idx) : Fin cfg0.N :=
  ⟨2 * (i 1).val + (i 2).val / 512, by
    have h1 : (i 1).val < 16 := (i 1).isLt
    have h2 : (i 2).val < 1024 := (i 2).isLt
    have : cfg0.N = 32 := by decide
    omega⟩
def inTile (i : S2x16x1024x3x256.Idx) : S2x512x3x256.Idx :=
  (ix4 (n0 := 2) (n1 := 512) (n2 := 3) (n3 := 256) (i 0) ⟨(i 2).val % 512, Nat.mod_lt _ (by decide)⟩ (i 3) (i 4) : S2x512x3x256.Idx)
theorem stepOf_inRes (t : Fin cfg0.N) (y : S2x512x3x256.Idx) : stepOf (inRes (Ring.bk 32 t.val) y) = t := by
  apply Fin.ext
  have ht : t.val < 32 := lt_of_lt_of_eq t.isLt (by decide)
  have h1 : (y 1).val < 512 := (y 1).isLt
  show 2 * ((Ring.bk 32 t.val).val / 2) + ((Ring.bk 32 t.val).val % 2 * 512 + (y 1).val) / 512 = t.val
  rw [bk32 ht]; omega
theorem inTile_inRes (u : Fin 32) (y : S2x512x3x256.Idx) : inTile (inRes u y) = y := by
  have h1 : (y 1).val < 512 := (y 1).isLt
  funext a; apply Fin.ext; fin_cases a
  · rfl
  · show (u.val % 2 * 512 + (y 1).val) % 512 = (y 1).val; omega
  · rfl
  · rfl

variable (m : (ℓ : Loc nD τ sig) → Buf (Elt F) ℓ) (ρ : Dev nD → PrngReg)

/-- What both results hold after the region. -/
def gout (c : Dev nD) (i : S2x16x1024x3x256.Idx) : Elt F .f32 :=
  tile (iblk m c 0 (stepOf i)) (iblk m c 1 (stepOf i)) (iblk m c 2 (stepOf i)) (iblk m c 3 (stepOf i)) (iblk m c 4 (stepOf i)) (inTile i)
theorem gout_inRes (c : Dev nD) (t : Fin cfg0.N) (y : S2x512x3x256.Idx) :
    tile (iblk m c 0 t) (iblk m c 1 t) (iblk m c 2 t) (iblk m c 3 t) (iblk m c 4 t) y = gout m c (inRes (Ring.bk 32 t.val) y) := by
  unfold gout; rw [stepOf_inRes, inTile_inRes]

/-! ## Entering and leaving the region -/

/-- The body's eight semaphores. -/
abbrev osem0 : Fin 8 → SemLoc sig := fun j => (![SemLoc.dma 8, SemLoc.dma 9, SemLoc.dma 10, SemLoc.dma 11, SemLoc.dma 12, SemLoc.dma 13, SemLoc.dma 14, SemLoc.dma 15] : Fin 8 → SemLoc sig) j
theorem ownSemFacts0 : Pipeline.OwnSemFacts spec0 osem0 := by decide
theorem smV_sem : ∀ s : Fin 4, (SemLoc.dma (smV s).sem : SemLoc sig) = osem0 ⟨s.val, by omega⟩ := by decide
theorem smH_sem : ∀ s : Fin 4, (SemLoc.dma (smH s).sem : SemLoc sig) = osem0 ⟨s.val + 4, by omega⟩ := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(vP c 0 ∗ vP c 1 ∗ vP c 2 ∗ vP c 3 ∗ hP c 0 ∗ hP c 1 ∗ hP c 2 ∗ hP c 3) := by
  rw [Pipeline.ownSems0_eq_of_list c osem0 [0, 1, 2, 3, 4, 5, 6, 7] (by decide) (by decide)]
  unfold vP hP
  rw [smV_sem 0, smV_sem 1, smV_sem 2, smV_sem 3, smH_sem 0, smH_sem 1, smH_sem 2, smH_sem 3]
  rfl
/-- The two results left in HBM. -/
def R0 : Finset (Ref sig .tc) := {main_v29_0, main_v29_1}
theorem R0_sub : R0 ⊆ Pipeline.restRefs sig spec0 \ (∅ : Finset (Ref sig .tc)) := by decide
/-- What the region leaves in them. -/
def Gv (c : Dev nD) (b : Ref sig .tc) : Buf (Elt F) ((c : Thread nD τ).loc b) :=
  Function.update (Function.update (V m c) main_v29_0 (gout m c)) main_v29_1 (gout m c) b
theorem Gv_0 (c : Dev nD) : Gv m c main_v29_0 = gout m c := by
  unfold Gv; rw [Function.update_of_ne (by decide), Function.update_self]
theorem Gv_1 (c : Dev nD) : Gv m c main_v29_1 = gout m c := by
  unfold Gv; rw [Function.update_self]
theorem pts_R0 (c : Dev nD) (X : (b : Ref sig .tc) → Buf (Elt F) ((c : Thread nD τ).loc b)) :
    (bigSep R0 (fun b => ((c : Thread nD τ).loc b) ↦{fullShare} X b) : sProp 𝕄)
      = iprop((((c : Thread nD τ).loc main_v29_0) ↦{fullShare} X main_v29_0) ∗ (((c : Thread nD τ).loc main_v29_1) ↦{fullShare} X main_v29_1)) := by
  rw [BI.bigSep_eq_bigSepL_of_eq [main_v29_0, main_v29_1] (by decide) (by decide)]; rfl
theorem sep2 {I : Type} (s : Finset I) (Φ Ψ : I → sProp 𝕄) : bigSep s (fun i => iprop(Φ i ∗ Ψ i)) = iprop(bigSep s Φ ∗ bigSep s Ψ) := bigSep_sep s Φ Ψ
theorem four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The region's own buffers and semaphores, and the two results, are the state before the first step. -/
theorem enter (c : Dev nD) : Pipeline.ΦDRV osem0 spec0 (∅ : Finset (Ref sig .tc)) R0 (fun c b => V0 m c (Proc.devRef .tc b)) (fun c b => V0 m c (Proc.devRef .tc b)) c
    ⊢ (Inv c (gout m c) 0 : sProp 𝕄) := by
  unfold Pipeline.ΦDRV Inv
  rw [scopedRest0_eq, ownSems00_eq, pts_R0 c (fun b => V0 m c (Proc.devRef .tc b)),
    bigSep_congr (s := Finset.univ) (fun u _ => Blk_ahead (c := c) (g := gout m c) (p := 0) (u := u) (Nat.zero_le _)),
    bigSep_congr (s := Finset.univ) (fun s _ => Slt_free (c := c) (p := 0) (s := s) (.inr (Nat.zero_le _)))]
  rw [sep2 Finset.univ (fun u : Fin 32 => iprop(∃ f, b1P c u f)) (fun u => iprop(∃ f, b2P c u f)), sep2 Finset.univ (fun s : Fin 4 => iprop(∃ f, slP c s f)) (fun s => iprop(vP c s ∗ hP c s)), sep2 Finset.univ (fun s : Fin 4 => vP c s) (fun s => hP c s), four (fun s => vP c s), four (fun s => hP c s)]
  iintro ⟨HS, ⟨V0, V1, V2, V3, H0, H1, H2, H3⟩, HE, O1, O2⟩
  isplitl [O1 O2]
  · isplitl [O1]
    · iapply (out1_split c); iexists _; iexact O1
    iapply (out2_split c); iexists _; iexact O2
  isplitl [HS]; · iapply (ring_split c); iexact HS
  isplitl [V0 V1 V2 V3]
  · isplitl [V0]; · iexact V0
    isplitl [V1]; · iexact V1
    isplitl [V2]; · iexact V2
    iexact V3
  isplitl [H0]; · iexact H0
  isplitl [H1]; · iexact H1
  isplitl [H2]; · iexact H2
  iexact H3
/-- The state after the last step gives them back, the results at the words computed. -/
theorem leave (c : Dev nD) : (Inv c (gout m c) 32 : sProp 𝕄)
    ⊢ Pipeline.ΦDRV osem0 spec0 (∅ : Finset (Ref sig .tc)) R0 (fun c b => V0 m c (Proc.devRef .tc b)) (Gv m) c := by
  unfold Pipeline.ΦDRV Inv
  rw [scopedRest0_eq, ownSems00_eq, pts_R0 c (Gv m c), Gv_0, Gv_1,
    bigSep_congr (s := Finset.univ) (fun u _ => Blk_done (c := c) (g := gout m c) (p := 32) (u := u) (.inl rfl)),
    bigSep_congr (s := Finset.univ) (fun s _ => Slt_free (c := c) (p := 32) (s := s) (.inl rfl))]
  rw [sep2 Finset.univ (fun u : Fin 32 => b1P c u (gout m c)) (fun u => b2P c u (gout m c)), sep2 Finset.univ (fun s : Fin 4 => iprop(∃ f, slP c s f)) (fun s => iprop(vP c s ∗ hP c s)), sep2 Finset.univ (fun s : Fin 4 => vP c s) (fun s => hP c s), four (fun s => vP c s), four (fun s => hP c s), out1_join c (gout m c), out2_join c (gout m c)]
  iintro ⟨⟨O1, O2⟩, HS, ⟨V0, V1, V2, V3⟩, H0, H1, H2, H3⟩
  isplitl [HS]; · iapply (ring_join c); iexact HS
  isplitl [V0 V1 V2 V3 H0 H1 H2 H3]
  · isplitl [V0]; · iexact V0
    isplitl [V1]; · iexact V1
    isplitl [V2]; · iexact V2
    isplitl [V3]; · iexact V3
    isplitl [H0]; · iexact H0
    isplitl [H1]; · iexact H1
    isplitl [H2]; · iexact H2
    iexact H3
  isplitr
  · iempintro
  isplitl [O1]; · iexact O1
  iexact O2

/-! ## The body at a point -/

/-- The pipeline's data: the arrays as the region finds them, every staged block left as it was, the state above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Inv c (gout m c) t.val
  q _ := fullShare
  owed _ := 0
theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

/-- The body runs at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = Inv c (gout m c) t.val from rfl, show (dats m 0 c).Φ t.succ = Inv c (gout m c) (t.val + 1) from rfl]
  unfold Dat.owesAt Pipeline.owesWithin
  rw [show (dats m 0 c).owed t.castSucc = 0 from rfl, show (dats m 0 c).owed t.succ = 0 from rfl]
  simp only [before_0, before_1, before_2, before_3, before_4, after_0, after_1, after_2, after_3, after_4]
  unfold owns
  iintro ⟨HI, ⟨%W, -, HW⟩, ⟨%d0, %f0, %e0, P0⟩, ⟨%d1, %f1, %e1, P1⟩, ⟨%d2, %f2, %e2, P2⟩, ⟨%d3, %f3, %e3, P3⟩, ⟨%d4, %f4, %e4, P4⟩⟩
  have hg : Here c t (st0_0 t) (st0_1 t) (st0_2 t) (st0_3 t) (st0_4 t) f0 f1 f2 f3 f4 (gout m c) := fun y => by
    rw [e0, e1, e2, e3, e4]; exact gout_inRes m c t y
  iapply (wp_wand_r frame (wpE (defs₀ (F := F)) Variants.none (c : Thread nD τ) none) Set.univ)
  isplitl [HI HW P0 P1 P2 P3 P4]
  · iapply (run_step c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) f0 f1 f2 f3 f4 (gout m c) hg)
    isplitl [P0 P1 P2 P3 P4]
    · isplitl [P0]; · iexact P0
      isplitl [P1]; · iexact P1
      isplitl [P2]; · iexact P2
      isplitl [P3]; · iexact P3
      iexact P4
    isplitl [HW]; · iexists W; iexact HW
    iexact HI
  · iintro %_ ⟨⟨P0, P1, P2, P3, P4⟩, ⟨%W', HW⟩, HI⟩
    isplitl [HI]; · iexact HI
    isplitl [HW]
    · iexists W'; isplitr; · ipureintro; exact fun _ _ => Or.inl trivial
      iexact HW
    isplitl [P0]
    · iexists f0; isplitr; · ipureintro; exact e0
      iexact P0
    isplitl [P1]
    · iexists f1; isplitr; · ipureintro; exact e1
      iexact P1
    isplitl [P2]
    · iexists f2; isplitr; · ipureintro; exact e2
      iexact P2
    isplitl [P3]
    · iexists f3; isplitr; · ipureintro; exact e3
      iexact P3
    iexists f4; isplitr; · ipureintro; exact e4
    iexact P4

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the lines after the region find: the arrays and the two results as the region leaves them. -/
abbrev Wr (c : Dev nD) : Valuation τ sig (Elt F) :=
  Pipeline.withArrays spec0 c (Pipeline.withR (V0 m c) R0 c (Gv m c)) fun w => (dats m 0 c).arrAt w cfg0.N

set_option backward.isDefEq.respectTransparency.types false in
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (Wr m c) (Proc.devRef .tc b))
      ∧ r.2.sem = fun _ => 0) :=
  Pipeline.θ_run_frame_dmaR_aroundV cfgs (dats m) (0 : Fin 1) launch0 osem0 defs₀ Variants.none ownSemFacts0 ∅ R0 (by decide) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Gv m)
    (hmain := hmainD m Variants.none) (hA := A_eq m) (hin := enter m) (hout := leave m)
    (Q' := _) (hQ' := fun _ h => h)

/-! ## What the run leaves -/

/-- The two leading axes joined: what `@main` returns of each result. -/
def flat (f : S2x16x1024x3x256.Idx → Elt F .f32) : S32x1024x3x256.Idx → Elt F .f32 :=
  shapeCast S32x1024x3x256 f shapeCasts_S2x16x1024x3x256_S32x1024x3x256

/-- A buffer that neither the region nor a host line writes ends as it was. -/
theorem tail_keeps (c : Dev nD) (b : Ref sig .tc) (h0 : b ≠ main_v30) (h1 : b ≠ main_v31) (hR : b ∉ R0) (hw : ∀ w, Pipeline.arrRef spec0 w ≠ b) :
    StableHlo.after (List.flatten [hostOps1]) (Wr m c) (Proc.devRef .tc b) = V m c b := by
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h0, StableHlo.devRef_ne_of_ne h1⟩))]
  unfold Wr
  rw [Pipeline.withArrays_of_ne _ c _ _ b hw, Pipeline.withR_of_not_mem _ _ _ _ b hR]
theorem Wr_0 (c : Dev nD) : Wr m c (Proc.devRef .tc main_v29_0) = gout m c := by
  unfold Wr
  rw [Pipeline.withArrays_of_ne _ c _ _ main_v29_0 (by exact (by decide : ∀ w, Pipeline.arrRef spec0 w ≠ main_v29_0)),
    Pipeline.withR_of_mem _ _ _ _ main_v29_0 (by decide), Gv_0]
theorem Wr_1 (c : Dev nD) : Wr m c (Proc.devRef .tc main_v29_1) = gout m c := by
  unfold Wr
  rw [Pipeline.withArrays_of_ne _ c _ _ main_v29_1 (by exact (by decide : ∀ w, Pipeline.arrRef spec0 w ≠ main_v29_1)),
    Pipeline.withR_of_mem _ _ _ _ main_v29_1 (by decide), Gv_1]
theorem tail_v30 (c : Dev nD) : StableHlo.after (List.flatten [hostOps1]) (Wr m c) (Proc.devRef .tc main_v30) = flat (gout m c) := by
  rw [show List.flatten [hostOps1 (F := F)] = hostOps1 from rfl, StableHlo.after_cons, StableHlo.after_cons, StableHlo.after_nil,
    StableHlo.reshape_result_ne _ _ _ _ _ _ _ (by decide), StableHlo.reshape_result, Wr_0]
  rfl
theorem tail_v31 (c : Dev nD) : StableHlo.after (List.flatten [hostOps1]) (Wr m c) (Proc.devRef .tc main_v31) = flat (gout m c) := by
  rw [show List.flatten [hostOps1 (F := F)] = hostOps1 from rfl, StableHlo.after_cons, StableHlo.after_cons, StableHlo.after_nil,
    StableHlo.reshape_result, StableHlo.reshape_result_ne _ _ _ _ _ _ _ (by decide), Wr_1]
  rfl

/-- The kernel runs: both results are `gout` with the leading axes joined, the arguments are as they were, every counter is zero. -/
theorem run : θ_run defs (onTc (τ := τ) (main (F := F))) ⟨m, fun _ => 0, ρ⟩ (fun r => (∀ c : Dev nD,
      r.2.mem ((c.tc : Thread nD τ).loc main_v30) = flat (gout m c)
      ∧ r.2.mem ((c.tc : Thread nD τ).loc main_v31) = flat (gout m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨((h.1 c).2 main_v30 (Pipeline.mem_restRefs_of main_v30 (by decide) (by decide))).trans (tail_v30 m c),
     ((h.1 c).2 main_v31 (Pipeline.mem_restRefs_of main_v31 (by decide) (by decide))).trans (tail_v31 m c),
     ((h.1 c).1 0).trans (((dats m 0 c).arrAt_in 0 rfl _).trans ((A_eq m c 0).trans (V_main_arg0 m c))),
     ((h.1 c).1 1).trans (((dats m 0 c).arrAt_in 1 rfl _).trans ((A_eq m c 1).trans (V_main_arg1 m c))),
     ((h.1 c).2 main_arg2 (Pipeline.mem_restRefs_of main_arg2 (by decide) (by decide))).trans ((tail_keeps m c main_arg2 (by decide) (by decide) (by decide) (by exact (by decide : ∀ w, Pipeline.arrRef spec0 w ≠ main_arg2))).trans (V_main_arg2 m c)),
     ((h.1 c).1 2).trans (((dats m 0 c).arrAt_in 2 rfl _).trans ((A_eq m c 2).trans (V_main_arg3 m c))),
     ((h.1 c).2 main_arg4 (Pipeline.mem_restRefs_of main_arg4 (by decide) (by decide))).trans ((tail_keeps m c main_arg4 (by decide) (by decide) (by decide) (by exact (by decide : ∀ w, Pipeline.arrRef spec0 w ≠ main_arg4))).trans (V_main_arg4 m c)),
     ((h.1 c).2 main_arg5 (Pipeline.mem_restRefs_of main_arg5 (by decide) (by decide))).trans ((tail_keeps m c main_arg5 (by decide) (by decide) (by decide) (by exact (by decide : ∀ w, Pipeline.arrRef spec0 w ≠ main_arg5))).trans (V_main_arg5 m c)),
     ((h.1 c).2 main_arg6 (Pipeline.mem_restRefs_of main_arg6 (by decide) (by decide))).trans ((tail_keeps m c main_arg6 (by decide) (by decide) (by decide) (by exact (by decide : ∀ w, Pipeline.arrRef spec0 w ≠ main_arg6))).trans (V_main_arg6 m c)),
     ((h.1 c).2 main_arg7 (Pipeline.mem_restRefs_of main_arg7 (by decide) (by decide))).trans ((tail_keeps m c main_arg7 (by decide) (by decide) (by decide) (by exact (by decide : ∀ w, Pipeline.arrRef spec0 w ≠ main_arg7))).trans (V_main_arg7 m c)),
     ((h.1 c).2 main_arg8 (Pipeline.mem_restRefs_of main_arg8 (by decide) (by decide))).trans ((tail_keeps m c main_arg8 (by decide) (by decide) (by decide) (by exact (by decide : ∀ w, Pipeline.arrRef spec0 w ≠ main_arg8))).trans (V_main_arg8 m c))⟩, h.2⟩) (run_main m ρ)

end Cert.KernelIdeal.Hand
end
-- ==== Proof.HostVal.lean ====
/-
  What the host builds before the region: the coefficients' table and the rows to add.
-/
module

public import proofs.«01_k».proof.Proof.Gen.KernelIdeal.Frame
public import Idealize.ShloMosaic.Lib.Pointwise
public import Idealize.ShloMosaic.Lib.StableHlo.Run

@[expose] public section

set_option maxRecDepth 16384

noncomputable section

namespace Cert.Value

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The coefficients' table is the printed one. -/
theorem V_cst : V0 m c (Proc.devRef .tc main_cst) = fun i => Ideal.ofBits .f32 (lit0 (S8x128.rowMajor i)) := by
  simp only [V0, hostOps0, List.flatten_cons, List.flatten_nil, List.append_nil, List.cons_append, List.nil_append]
  after_results_simp
  rfl

/-- The host operations before the one that stacks the rows. -/
abbrev pre : List (HloOp τ sig (Elt Ideal)) := hostOps0.dropLast
/-- What they leave. -/
abbrev W : Valuation τ sig (Elt Ideal) := after pre (fun b => m (c, b))

/-- The stacked rows. -/
def rows (V : Valuation τ sig (Elt Ideal)) : S8x256.Idx → EReal :=
  concatenate S8x256 0 [⟨S1x256, (V (Proc.devRef .tc main_v20) : S1x256.Idx → EReal)⟩, ⟨S1x256, (V (Proc.devRef .tc main_v21) : S1x256.Idx → EReal)⟩,
    ⟨S1x256, (V (Proc.devRef .tc main_v22) : S1x256.Idx → EReal)⟩, ⟨S1x256, (V (Proc.devRef .tc main_v23) : S1x256.Idx → EReal)⟩,
    ⟨S1x256, (V (Proc.devRef .tc main_v24) : S1x256.Idx → EReal)⟩, ⟨S1x256, (V (Proc.devRef .tc main_v25) : S1x256.Idx → EReal)⟩,
    ⟨S1x256, (V (Proc.devRef .tc main_v26) : S1x256.Idx → EReal)⟩, ⟨S1x256, (V (Proc.devRef .tc main_v27) : S1x256.Idx → EReal)⟩]
    concatenates_S1x256_S1x256_S1x256_S1x256_S1x256_S1x256_S1x256_S1x256_S8x256_d0

theorem V_v28 : V0 m c (Proc.devRef .tc main_v28) = rows (W m c) := by
  simp only [V0, hostOps0, List.flatten_cons, List.flatten_nil, List.append_nil, List.cons_append, List.nil_append, after_cons, after_nil]
  refine (nary_result' ..).trans ?_
  simp only [W, pre, hostOps0, List.dropLast, after_cons, after_nil, rows]
  rfl

/-! The stacked rows, one by one. -/
theorem rows_0 (V : Valuation τ sig (Elt Ideal)) (l : Fin 256) : rows V (ix2 0 l) = (V (Proc.devRef .tc main_v20) : S1x256.Idx → EReal) (ix2 0 l) := by
  pointwise [rows]
theorem rows_1 (V : Valuation τ sig (Elt Ideal)) (l : Fin 256) : rows V (ix2 1 l) = (V (Proc.devRef .tc main_v21) : S1x256.Idx → EReal) (ix2 0 l) := by
  pointwise [rows]
theorem rows_2 (V : Valuation τ sig (Elt Ideal)) (l : Fin 256) : rows V (ix2 2 l) = (V (Proc.devRef .tc main_v22) : S1x256.Idx → EReal) (ix2 0 l) := by
  pointwise [rows]
theorem rows_3 (V : Valuation τ sig (Elt Ideal)) (l : Fin 256) : rows V (ix2 3 l) = (V (Proc.devRef .tc main_v23) : S1x256.Idx → EReal) (ix2 0 l) := by
  pointwise [rows]
theorem rows_4 (V : Valuation τ sig (Elt Ideal)) (l : Fin 256) : rows V (ix2 4 l) = (V (Proc.devRef .tc main_v24) : S1x256.Idx → EReal) (ix2 0 l) := by
  pointwise [rows]
theorem rows_5 (V : Valuation τ sig (Elt Ideal)) (l : Fin 256) : rows V (ix2 5 l) = (V (Proc.devRef .tc main_v25) : S1x256.Idx → EReal) (ix2 0 l) := by
  pointwise [rows]

/-- An argument as launched. -/
abbrev B3 : S16x1024x256.Idx → EReal := m (c, Proc.devRef .tc main_arg3)
abbrev B4 : S1x2x256.Idx → EReal := m (c, Proc.devRef .tc main_arg4)
abbrev B5 : S1x1x256.Idx → EReal := m (c, Proc.devRef .tc main_arg5)
abbrev B6 : S1x1x256.Idx → EReal := m (c, Proc.devRef .tc main_arg6)
abbrev B7 : S2x256.Idx → EReal := m (c, Proc.devRef .tc main_arg7)
abbrev B8 : S1x6x256.Idx → EReal := m (c, Proc.devRef .tc main_arg8)

/-! The rows as the arguments give them. -/
theorem row_0 (l : Fin 256) : (V0 m c (Proc.devRef .tc main_v28) : S8x256.Idx → EReal) (ix2 0 l) = B5 m c (ix3 0 0 l) + B7 m c (ix2 1 l) := by
  rw [V_v28, rows_0]
  simp only [W, pre, hostOps0, List.dropLast]
  after_results_simp
  pointwise
theorem row_1 (l : Fin 256) : (V0 m c (Proc.devRef .tc main_v28) : S8x256.Idx → EReal) (ix2 1 l) = B4 m c (ix3 0 0 l) + B6 m c (ix3 0 0 l) := by
  rw [V_v28, rows_1]
  simp only [W, pre, hostOps0, List.dropLast]
  after_results_simp
  pointwise
theorem row_2 (l : Fin 256) : (V0 m c (Proc.devRef .tc main_v28) : S8x256.Idx → EReal) (ix2 2 l) = B4 m c (ix3 0 1 l) + B6 m c (ix3 0 0 l) := by
  rw [V_v28, rows_2]
  simp only [W, pre, hostOps0, List.dropLast]
  after_results_simp
  pointwise
theorem row_3 (l : Fin 256) : (V0 m c (Proc.devRef .tc main_v28) : S8x256.Idx → EReal) (ix2 3 l) = B8 m c (ix3 0 4 l) := by
  rw [V_v28, rows_3]
  simp only [W, pre, hostOps0, List.dropLast]
  after_results_simp
  pointwise
theorem row_4 (l : Fin 256) : (V0 m c (Proc.devRef .tc main_v28) : S8x256.Idx → EReal) (ix2 4 l) = B8 m c (ix3 0 5 l) := by
  rw [V_v28, rows_4]
  simp only [W, pre, hostOps0, List.dropLast]
  after_results_simp
  pointwise
theorem row_5 (l : Fin 256) : (V0 m c (Proc.devRef .tc main_v28) : S8x256.Idx → EReal) (ix2 5 l) = B8 m c (ix3 0 0 l) := by
  rw [V_v28, rows_5]
  simp only [W, pre, hostOps0, List.dropLast]
  after_results_simp
  pointwise

end Cert.Value
end
-- ==== Proof.BlkVal.lean ====
/-
  The staged blocks at an index, as words of the arrays they come from.
-/
module

public import proofs.«01_k».proof.Proof.HostVal

@[expose] public section

set_option maxRecDepth 16384

noncomputable section

namespace Cert.Value

open Cert.KernelIdeal Cert.KernelIdeal.Gen
open Idealize.ShloMosaic Idealize.ShloMosaic.TcCoe

variable (m : (ℓ : Loc nD τ sig) → Buf (Elt Ideal) ℓ) (c : Dev nD)

theorem tr0 : ∀ t : Fin cfg0.N, cc0_transform_0 (grid0.coords t) = ![t.val / 2, t.val % 2, 0] := by decide
theorem tr1 : ∀ t : Fin cfg0.N, cc0_transform_1 (grid0.coords t) = ![t.val / 2, t.val % 2, 0] := by decide
theorem tr2 : ∀ t : Fin cfg0.N, cc0_transform_2 (grid0.coords t) = ![t.val / 2, t.val % 2, 0] := by decide

/-- The points of a step. -/
theorem blk_0 (t : Fin cfg0.N) (b : Fin 16) (q : Fin 1024) (r : Fin 512) (k : Fin 2) (hb : b.val = t.val / 2) (hq : q.val = t.val % 2 * 512 + r.val) :
    (iblk m c 0 t : S1x512x2.Idx → EReal) (ix3 0 r k) = (m (c, Proc.devRef .tc main_arg0) : S16x1024x2.Idx → EReal) (ix3 b q k) := by
  have e : ((cfg0.win 0).blk t).view.emb (ix3 0 r k : S1x512x2.Idx) = (ix3 b q k : S16x1024x2.Idx) := by
    funext a; apply Fin.ext; fin_cases a
    · show cc0_transform_0 (grid0.coords t) 0 * 1 + 1 * 0 = b.val
      rw [tr0]; show t.val / 2 * 1 + 1 * 0 = b.val; omega
    · show cc0_transform_0 (grid0.coords t) 1 * 512 + 1 * r.val = q.val
      rw [tr0]; show t.val % 2 * 512 + 1 * r.val = q.val; omega
    · show cc0_transform_0 (grid0.coords t) 2 * 2 + 1 * k.val = k.val
      rw [tr0]; show 0 * 2 + 1 * k.val = k.val; omega
  unfold iblk
  show V m c main_arg0 (((cfg0.win 0).blk t).view.emb (ix3 0 r k : S1x512x2.Idx)) = _
  rw [e, V_main_arg0]

/-- The boxes of a step. -/
theorem blk_1 (t : Fin cfg0.N) (b : Fin 16) (q : Fin 1024) (r : Fin 512) (k : Fin 4) (hb : b.val = t.val / 2) (hq : q.val = t.val % 2 * 512 + r.val) :
    (iblk m c 1 t : S1x512x4.Idx → EReal) (ix3 0 r k) = (m (c, Proc.devRef .tc main_arg1) : S16x1024x4.Idx → EReal) (ix3 b q k) := by
  have e : ((cfg0.win 1).blk t).view.emb (ix3 0 r k : S1x512x4.Idx) = (ix3 b q k : S16x1024x4.Idx) := by
    funext a; apply Fin.ext; fin_cases a
    · show cc0_transform_1 (grid0.coords t) 0 * 1 + 1 * 0 = b.val
      rw [tr1]; show t.val / 2 * 1 + 1 * 0 = b.val; omega
    · show cc0_transform_1 (grid0.coords t) 1 * 512 + 1 * r.val = q.val
      rw [tr1]; show t.val % 2 * 512 + 1 * r.val = q.val; omega
    · show cc0_transform_1 (grid0.coords t) 2 * 4 + 1 * k.val = k.val
      rw [tr1]; show 0 * 4 + 1 * k.val = k.val; omega
  unfold iblk
  show V m c main_arg1 (((cfg0.win 1).blk t).view.emb (ix3 0 r k : S1x512x4.Idx)) = _
  rw [e, V_main_arg1]

/-- The features of a step. -/
theorem blk_2 (t : Fin cfg0.N) (b : Fin 16) (q : Fin 1024) (r : Fin 512) (k : Fin 256) (hb : b.val = t.val / 2) (hq : q.val = t.val % 2 * 512 + r.val) :
    (iblk m c 2 t : S1x512x256.Idx → EReal) (ix3 0 r k) = (m (c, Proc.devRef .tc main_arg3) : S16x1024x256.Idx → EReal) (ix3 b q k) := by
  have e : ((cfg0.win 2).blk t).view.emb (ix3 0 r k : S1x512x256.Idx) = (ix3 b q k : S16x1024x256.Idx) := by
    funext a; apply Fin.ext; fin_cases a
    · show cc0_transform_2 (grid0.coords t) 0 * 1 + 1 * 0 = b.val
      rw [tr2]; show t.val / 2 * 1 + 1 * 0 = b.val; omega
    · show cc0_transform_2 (grid0.coords t) 1 * 512 + 1 * r.val = q.val
      rw [tr2]; show t.val % 2 * 512 + 1 * r.val = q.val; omega
    · show cc0_transform_2 (grid0.coords t) 2 * 256 + 1 * k.val = k.val
      rw [tr2]; show 0 * 256 + 1 * k.val = k.val; omega
  unfold iblk
  show V m c main_arg3 (((cfg0.win 2).blk t).view.emb (ix3 0 r k : S1x512x256.Idx)) = _
  rw [e, V_main_arg3]

/-- The coefficients' table, whole at every step. -/
theorem blk_3 (t : Fin cfg0.N) (k : Fin 8) (l : Fin 128) :
    (iblk m c 3 t : S8x128.Idx → EReal) (ix2 k l) = (V0 m c (Proc.devRef .tc main_cst) : S8x128.Idx → EReal) (ix2 k l) := by
  have e : ((cfg0.win 3).blk t).view.emb (ix2 k l : S8x128.Idx) = (ix2 k l : S8x128.Idx) := by
    funext a; apply Fin.ext; fin_cases a
    · show 0 * 8 + 1 * k.val = k.val; omega
    · show 0 * 128 + 1 * l.val = l.val; omega
  unfold iblk
  show V m c main_cst (((cfg0.win 3).blk t).view.emb (ix2 k l : S8x128.Idx)) = _
  rw [e]

/-- The rows to add, whole at every step. -/
theorem blk_4 (t : Fin cfg0.N) (k : Fin 8) (l : Fin 256) :
    (iblk m c 4 t : S8x256.Idx → EReal) (ix2 k l) = (V0 m c (Proc.devRef .tc main_v28) : S8x256.Idx → EReal) (ix2 k l) := by
  have e : ((cfg0.win 4).blk t).view.emb (ix2 k l : S8x256.Idx) = (ix2 k l : S8x256.Idx) := by
    funext a; apply Fin.ext; fin_cases a
    · show 0 * 8 + 1 * k.val = k.val; omega
    · show 0 * 256 + 1 * l.val = l.val; omega
  unfold iblk
  show V m c main_v28 (((cfg0.win 4).blk t).view.emb (ix2 k l : S8x256.Idx)) = _
  rw [e]

end Cert.Value
end
-- ==== Proof.PayVal.lean ====
/-
  The idealized kernel's payloads read at an index: a step's words as expressions in the words it loads.
-/
module

public import proofs.«01_k».proof.Proof.Gen.KernelIdeal.Skeleton
public import Idealize.ShloMosaic.Lib.Pointwise

@[expose] public section

set_option maxRecDepth 16384

noncomputable section

namespace Cert.Value

open Cert.KernelIdeal Cert.KernelIdeal.Gen
open Idealize.ShloMosaic

/-- The polynomial of degree 5 in `a`, its even and its odd part each in Horner form over `a * a`. -/
def poly (k0 k1 k2 k3 k4 k5 a : EReal) : EReal :=
  (k0 + (a * a) * (k2 + (a * a) * k4)) + a * (k1 + (a * a) * (k3 + (a * a) * k5))

/-- Lane `l` of the polynomial the table's rows `f, k0 … k5` give at coordinate `p`. -/
def lane (f k0 k1 k2 k3 k4 k5 : S128.Idx → EReal) (p : EReal) (l : Fin 128) : EReal :=
  poly (k0 (ix1 l)) (k1 (ix1 l)) (k2 (ix1 l)) (k3 (ix1 l)) (k4 (ix1 l)) (k5 (ix1 l)) (p * f (ix1 l))

/-- The first 128 channels encode one coordinate, the last 128 the other. -/
def both (f k0 k1 k2 k3 k4 k5 : S128.Idx → EReal) (p q : EReal) (l : Fin 256) : EReal :=
  if h : l.val < 128 then lane f k0 k1 k2 k3 k4 k5 p ⟨l.val, h⟩
  else lane f k0 k1 k2 k3 k4 k5 q ⟨l.val - 128, by omega⟩

theorem pay10_apply (f k0 k1 k2 k3 k4 k5 : FVec Ideal S128 .f32) (px : FVec Ideal S512x1 .f32) (py : FVec Ideal S1x512x1 .f32)
    (r : Fin 512) (l : Fin 256) :
    k0_pay10 f k0 k1 k2 k3 k4 k5 px py (ix2 r l) = both f k0 k1 k2 k3 k4 k5 (py (ix3 0 r 0)) (px (ix2 r 0)) l := by
  pointwise [k0_pay10, both, lane, poly]

theorem pay18_apply (f k0 k1 k2 k3 k4 k5 : FVec Ideal S128 .f32) (px py : FVec Ideal S512x1 .f32)
    (r : Fin 512) (l : Fin 256) :
    k0_pay18 f k0 k1 k2 k3 k4 k5 px py (ix2 r l) = both f k0 k1 k2 k3 k4 k5 (py (ix2 r 0)) (px (ix2 r 0)) l := by
  pointwise [k0_pay18, both, lane, poly]

/-- Dropping the three unit axes. -/
theorem cast5 (h : S512x256.ShapeCasts S1x1x512x1x256) (v : S512x256.Idx → EReal) (r : Fin 512) (l : Fin 256) :
    shapeCast S1x1x512x1x256 v h (ix5 0 0 r 0 l) = v (ix2 r l) := by
  refine (congrArg v (Shape.reshapeEquiv_eq_of_rowMajor _ ?_) : v _ = v _)
  rw [Shape.rowMajor_val_five, Shape.rowMajor_val_two]
  show r.val * 256 + l.val = ((((0 * 1 + 0) * 512 + r.val) * 1 + 0) * 256 + l.val)
  omega

theorem pay11_apply (x : FVec Ideal S512x256 .f32) (e : FVec Ideal S512x256 .f32) (w : FVec Ideal S1x256 .f32) (r : Fin 512) (l : Fin 256) :
    k0_pay11 x e w (ix5 0 0 r 0 l) = e (ix2 r l) + (x (ix2 r l) + w (ix2 0 l)) := by
  unfold k0_pay11; refine (cast5 _ _ r l).trans ?_
  pointwise
theorem pay19_apply (x : FVec Ideal S512x256 .f32) (e : FVec Ideal S512x256 .f32) (w : FVec Ideal S1x256 .f32) (r : Fin 512) (l : Fin 256) :
    k0_pay19 x e w (ix5 0 0 r 0 l) = e (ix2 r l) + (x (ix2 r l) + w (ix2 0 l)) := by
  unfold k0_pay19; refine (cast5 _ _ r l).trans ?_
  pointwise
theorem pay12_apply (w : FVec Ideal S1x256 .f32) (r : Fin 512) (l : Fin 256) : k0_pay12 w (ix5 0 0 r 0 l) = w (ix2 0 l) := by
  unfold k0_pay12; refine (cast5 _ _ r l).trans ?_
  pointwise
theorem pay13_apply (w : FVec Ideal S1x256 .f32) (r : Fin 512) (l : Fin 256) : k0_pay13 w (ix5 0 0 r 0 l) = w (ix2 0 l) := by
  unfold k0_pay13; refine (cast5 _ _ r l).trans ?_
  pointwise
theorem pay27_apply (w : FVec Ideal S1x256 .f32) (r : Fin 512) (l : Fin 256) : k0_pay27 w (ix5 0 0 r 0 l) = w (ix2 0 l) := by
  unfold k0_pay27; refine (cast5 _ _ r l).trans ?_
  pointwise

theorem pay20_apply (f k0 k1 k2 k3 k4 k5 : FVec Ideal S128 .f32) (p : FVec Ideal S512x1 .f32) (r : Fin 512) (l : Fin 128) :
    k0_pay20 f k0 k1 k2 k3 k4 k5 p (ix2 r l) = lane f k0 k1 k2 k3 k4 k5 (p (ix2 r 0)) l := by
  pointwise [k0_pay20, lane, poly]

/-- The second corner's words: its y half is computed in one piece, its x half in five. -/
theorem pay26_apply (f k0 k1 k2 k3 k4 k5 : FVec Ideal S128 .f32) (x : FVec Ideal S512x256 .f32) (px py : FVec Ideal S512x1 .f32)
    (w : FVec Ideal S1x256 .f32) (r : Fin 512) (l : Fin 256) :
    k0_pay26 k5 x (k0_pay20 f k0 k1 k2 k3 k4 k5 py) (k0_pay21 f px) (k0_pay22 f px) (k0_pay23 f k0 k2 k4 px) (k0_pay24 k1) (k0_pay25 k3) w
        (ix5 0 0 r 0 l)
      = both f k0 k1 k2 k3 k4 k5 (py (ix2 r 0)) (px (ix2 r 0)) l + (x (ix2 r l) + w (ix2 0 l)) := by
  unfold k0_pay26; refine (cast5 _ _ r l).trans ?_
  pointwise [pay20_apply, k0_pay21, k0_pay22, k0_pay23, k0_pay24, k0_pay25, both, lane, poly]

theorem pay1_apply (v : FVec Ideal S1x128 .f32) (l : Fin 128) : k0_pay1 v (ix1 l) = v (ix2 0 l) := by pointwise [k0_pay1]
theorem pay8_apply (v : FVec Ideal S1x512x256 .f32) (r : Fin 512) (l : Fin 256) : k0_pay8 v (ix2 r l) = v (ix3 0 r l) := by
  pointwise [k0_pay8]
theorem pay9_apply (v : FVec Ideal S1x512x1 .f32) (r : Fin 512) : k0_pay9 v (ix2 r 0) = v (ix3 0 r 0) := by
  pointwise [k0_pay9]
theorem pay2_apply (v : FVec Ideal S1x128 .f32) (l : Fin 128) : k0_pay2 v (ix1 l) = v (ix2 0 l) := by pointwise [k0_pay2]
theorem pay3_apply (v : FVec Ideal S1x128 .f32) (l : Fin 128) : k0_pay3 v (ix1 l) = v (ix2 0 l) := by pointwise [k0_pay3]
theorem pay4_apply (v : FVec Ideal S1x128 .f32) (l : Fin 128) : k0_pay4 v (ix1 l) = v (ix2 0 l) := by pointwise [k0_pay4]
theorem pay5_apply (v : FVec Ideal S1x128 .f32) (l : Fin 128) : k0_pay5 v (ix1 l) = v (ix2 0 l) := by pointwise [k0_pay5]
theorem pay6_apply (v : FVec Ideal S1x128 .f32) (l : Fin 128) : k0_pay6 v (ix1 l) = v (ix2 0 l) := by pointwise [k0_pay6]
theorem pay7_apply (v : FVec Ideal S1x128 .f32) (l : Fin 128) : k0_pay7 v (ix1 l) = v (ix2 0 l) := by pointwise [k0_pay7]
theorem pay14_apply (v : FVec Ideal S1x512x1 .f32) (r : Fin 512) : k0_pay14 v (ix2 r 0) = v (ix3 0 r 0) := by
  pointwise [k0_pay14]
theorem pay15_apply (v : FVec Ideal S1x512x1 .f32) (r : Fin 512) : k0_pay15 v (ix2 r 0) = v (ix3 0 r 0) := by
  pointwise [k0_pay15]
theorem pay16_apply (v : FVec Ideal S1x512x1 .f32) (r : Fin 512) : k0_pay16 v (ix2 r 0) = v (ix3 0 r 0) := by
  pointwise [k0_pay16]
theorem pay17_apply (v : FVec Ideal S1x512x1 .f32) (r : Fin 512) : k0_pay17 v (ix2 r 0) = v (ix3 0 r 0) := by
  pointwise [k0_pay17]

end Cert.Value
end
-- ==== Proof.TileVal.lean ====
/-
  A step's words at an index, as expressions in the five staged blocks.
-/
module

public import proofs.«01_k».proof.Proof.IVals
public import proofs.«01_k».proof.Proof.PayVal

@[expose] public section

set_option maxRecDepth 16384

noncomputable section

namespace Cert.Value

open Cert.KernelIdeal Cert.KernelIdeal.Gen Cert.KernelIdeal.Hand
open Idealize.ShloMosaic

/-- Lane `l` of the polynomial whose coefficients stand in the table's rows 1 to 6, its argument scaled by row 0. -/
def tlane (t : S8x128.Idx → EReal) (p : EReal) (l : Fin 128) : EReal :=
  poly (t (ix2 1 l)) (t (ix2 2 l)) (t (ix2 3 l)) (t (ix2 4 l)) (t (ix2 5 l)) (t (ix2 6 l)) (p * t (ix2 0 l))

/-- The first 128 channels encode coordinate `p`, the last 128 coordinate `q`. -/
def tboth (t : S8x128.Idx → EReal) (p q : EReal) (l : Fin 256) : EReal :=
  if h : l.val < 128 then tlane t p ⟨l.val, h⟩ else tlane t q ⟨l.val - 128, by omega⟩

theorem lane_coef (t : S8x128.Idx → Elt Ideal .f32) (p : EReal) (l : Fin 128) :
    lane (coef (F := Ideal) t 0) (coef (F := Ideal) t 1) (coef (F := Ideal) t 2) (coef (F := Ideal) t 3) (coef (F := Ideal) t 4) (coef (F := Ideal) t 5) (coef (F := Ideal) t 6) p l = tlane t p l := by
  unfold lane tlane
  have e0 : coef (F := Ideal) t 0 (ix1 l) = t (ix2 0 l) := by
    show k0_pay1 (View.ld t (Rect.unit (s := S8x128) ![0, 0] S1x128.size inb_S8x128_S1x128_0_0)) (ix1 l) = _
    rw [pay1_apply]; pointwise
  have e1 : coef (F := Ideal) t 1 (ix1 l) = t (ix2 1 l) := by
    show k0_pay2 (View.ld t (Rect.unit (s := S8x128) ![1, 0] S1x128.size inb_S8x128_S1x128_1_0)) (ix1 l) = _
    rw [pay2_apply]; pointwise
  have e2 : coef (F := Ideal) t 2 (ix1 l) = t (ix2 2 l) := by
    show k0_pay3 (View.ld t (Rect.unit (s := S8x128) ![2, 0] S1x128.size inb_S8x128_S1x128_2_0)) (ix1 l) = _
    rw [pay3_apply]; pointwise
  have e3 : coef (F := Ideal) t 3 (ix1 l) = t (ix2 3 l) := by
    show k0_pay4 (View.ld t (Rect.unit (s := S8x128) ![3, 0] S1x128.size inb_S8x128_S1x128_3_0)) (ix1 l) = _
    rw [pay4_apply]; pointwise
  have e4 : coef (F := Ideal) t 4 (ix1 l) = t (ix2 4 l) := by
    show k0_pay5 (View.ld t (Rect.unit (s := S8x128) ![4, 0] S1x128.size inb_S8x128_S1x128_4_0)) (ix1 l) = _
    rw [pay5_apply]; pointwise
  have e5 : coef (F := Ideal) t 5 (ix1 l) = t (ix2 5 l) := by
    show k0_pay6 (View.ld t (Rect.unit (s := S8x128) ![5, 0] S1x128.size inb_S8x128_S1x128_5_0)) (ix1 l) = _
    rw [pay6_apply]; pointwise
  have e6 : coef (F := Ideal) t 6 (ix1 l) = t (ix2 6 l) := by
    show k0_pay7 (View.ld t (Rect.unit (s := S8x128) ![6, 0] S1x128.size inb_S8x128_S1x128_6_0)) (ix1 l) = _
    rw [pay7_apply]; pointwise
  rw [e0, e1, e2, e3, e4, e5, e6]

theorem both_coef (t : S8x128.Idx → Elt Ideal .f32) (p q : EReal) (l : Fin 256) :
    both (coef (F := Ideal) t 0) (coef (F := Ideal) t 1) (coef (F := Ideal) t 2) (coef (F := Ideal) t 3) (coef (F := Ideal) t 4) (coef (F := Ideal) t 5) (coef (F := Ideal) t 6) p q l = tboth t p q l := by
  unfold both tboth
  simp only [lane_coef]

/-! ## The six rectangles of a slot -/

section Rectangles
variable (w0 w1 w2 w3 w4 w5 : S1x1x512x1x256.Idx → EReal) (r : Fin 512) (l : Fin 256)

theorem tileOf_00 : tileOf (F := Ideal) w0 w1 w2 w3 w4 w5 (ix4 0 r 0 l) = w0 (ix5 0 0 r 0 l) := by
  rw [ix5_eq_valueIdx]
  exact ((if_pos rfl).trans (if_pos rfl))
theorem tileOf_01 : tileOf (F := Ideal) w0 w1 w2 w3 w4 w5 (ix4 0 r 1 l) = w1 (ix5 0 0 r 0 l) := by
  rw [ix5_eq_valueIdx]
  exact ((if_pos rfl).trans ((if_neg (show ¬ (1 : ℕ) = 0 by omega)).trans (if_pos rfl)))
theorem tileOf_02 : tileOf (F := Ideal) w0 w1 w2 w3 w4 w5 (ix4 0 r 2 l) = w2 (ix5 0 0 r 0 l) := by
  rw [ix5_eq_valueIdx]
  exact ((if_pos rfl).trans ((if_neg (show ¬ (2 : ℕ) = 0 by omega)).trans (if_neg (show ¬ (2 : ℕ) = 1 by omega))))
theorem tileOf_10 : tileOf (F := Ideal) w0 w1 w2 w3 w4 w5 (ix4 1 r 0 l) = w3 (ix5 0 0 r 0 l) := by
  rw [ix5_eq_valueIdx]
  exact ((if_neg (show ¬ (1 : ℕ) = 0 by omega)).trans (if_pos rfl))
theorem tileOf_11 : tileOf (F := Ideal) w0 w1 w2 w3 w4 w5 (ix4 1 r 1 l) = w4 (ix5 0 0 r 0 l) := by
  rw [ix5_eq_valueIdx]
  exact ((if_neg (show ¬ (1 : ℕ) = 0 by omega)).trans ((if_neg (show ¬ (1 : ℕ) = 0 by omega)).trans (if_pos rfl)))
theorem tileOf_12 : tileOf (F := Ideal) w0 w1 w2 w3 w4 w5 (ix4 1 r 2 l) = w5 (ix5 0 0 r 0 l) := by
  rw [ix5_eq_valueIdx]
  exact ((if_neg (show ¬ (1 : ℕ) = 0 by omega)).trans ((if_neg (show ¬ (2 : ℕ) = 0 by omega)).trans (if_neg (show ¬ (2 : ℕ) = 1 by omega))))

end Rectangles

variable (x2 : S1x512x2.Idx → Elt Ideal .f32) (x3 : S1x512x4.Idx → Elt Ideal .f32) (x4 : S1x512x256.Idx → Elt Ideal .f32)
  (x5 : S8x128.Idx → Elt Ideal .f32) (x6 : S8x256.Idx → Elt Ideal .f32) (r : Fin 512) (l : Fin 256)

/-- The points' words. -/
theorem tile_pts : tile (F := Ideal) x2 x3 x4 x5 x6 (ix4 0 r 0 l)
    = tboth x5 (x2 (ix3 0 r 1)) (x2 (ix3 0 r 0)) l + (x4 (ix3 0 r l) + x6 (ix2 0 l)) := by
  unfold tile; rw [tileOf_00]
  rw [pay11_apply, pay10_apply, both_coef, pay8_apply, pay9_apply]
  pointwise
/-- The points' first mask row. -/
theorem tile_pmask1 : tile (F := Ideal) x2 x3 x4 x5 x6 (ix4 0 r 1 l) = x6 (ix2 3 l) := by
  unfold tile; rw [tileOf_01]
  rw [pay12_apply]
  pointwise
/-- The points' second mask row. -/
theorem tile_pmask2 : tile (F := Ideal) x2 x3 x4 x5 x6 (ix4 0 r 2 l) = x6 (ix2 4 l) := by
  unfold tile; rw [tileOf_02]
  rw [pay13_apply]
  pointwise
/-- The first corner's words. -/
theorem tile_box0 : tile (F := Ideal) x2 x3 x4 x5 x6 (ix4 1 r 0 l)
    = tboth x5 (x3 (ix3 0 r 1)) (x3 (ix3 0 r 0)) l + (x4 (ix3 0 r l) + x6 (ix2 1 l)) := by
  unfold tile; rw [tileOf_10]
  rw [pay19_apply, pay18_apply, both_coef, pay8_apply, pay14_apply, pay15_apply]
  pointwise
/-- The second corner's words. -/
theorem tile_box1 : tile (F := Ideal) x2 x3 x4 x5 x6 (ix4 1 r 1 l)
    = tboth x5 (x3 (ix3 0 r 3)) (x3 (ix3 0 r 2)) l + (x4 (ix3 0 r l) + x6 (ix2 2 l)) := by
  unfold tile; rw [tileOf_11]
  rw [pay26_apply, both_coef, pay8_apply, pay16_apply, pay17_apply]
  pointwise
/-- The boxes' mask row. -/
theorem tile_bmask : tile (F := Ideal) x2 x3 x4 x5 x6 (ix4 1 r 2 l) = x6 (ix2 5 l) := by
  unfold tile; rw [tileOf_12]
  rw [pay27_apply]
  pointwise

end Cert.Value
end
-- ==== Proof.RefVal.lean ====
/-
  The reference's result read at an index, at the ideal instance.
-/
module

public import proofs.«01_k».proof.Proof.Gen.ReferenceIdeal.Run
public import Idealize.ShloMosaic.Lib.Pointwise

@[expose] public section

set_option maxRecDepth 16384

noncomputable section

namespace Cert.Value.Ref

open Cert.ReferenceIdeal Cert.ReferenceIdeal.Gen Cert.ReferenceIdeal.Value
open Idealize.ShloMosaic

/-- The reference's sine: its polynomial of degree 5. -/
def sinp (a : EReal) : EReal :=
  a * (1 + (a * a) * (Ideal.ofBits .f32 0xBE2AAAAB#32 + (a * a) * Ideal.ofBits .f32 0x3C088889#32))

/-- The reference's cosine: its polynomial of degree 4. -/
def cosp (a : EReal) : EReal :=
  1 + (a * a) * (Ideal.ofBits .f32 0xBF000000#32 + (a * a) * Ideal.ofBits .f32 0x3D2AAAAB#32)

/-- A coordinate's encoding: sines on the even channels, cosines on the odd ones. -/
def enc (T : Fin 128 → EReal) (p : EReal) (l : Fin 128) : EReal :=
  if l.val % 2 = 0 then sinp (p * T l) else cosp (p * T l)

/-- Two arrays interleaved along the last axis, read back (points). -/
theorem interleave1 (A B : S16x1024x1x64.Idx → EReal) (b : Fin 16) (q : Fin 1024) (l : Fin 128)
    (h : S16x1024x1x64x2.ShapeCasts S16x1024x1x128) :
    shapeCast S16x1024x1x128 (concatenate S16x1024x1x64x2 4 [⟨S16x1024x1x64x1, broadcastInDim S16x1024x1x64x1 ![0, 1, 2, 3] bcast_S16x1024x1x64_S16x1024x1x64x1_0_1_2_3 A⟩,
        ⟨S16x1024x1x64x1, broadcastInDim S16x1024x1x64x1 ![0, 1, 2, 3] bcast_S16x1024x1x64_S16x1024x1x64x1_0_1_2_3 B⟩] concatenates_S16x1024x1x64x1_S16x1024x1x64x1_S16x1024x1x64x2_d4) h (ix4 b q 0 l)
      = if l.val % 2 = 0 then A (ix4 b q 0 ⟨l.val / 2, by omega⟩) else B (ix4 b q 0 ⟨l.val / 2, by omega⟩) := by
  have e : Shape.reshapeEquiv h (ix4 b q 0 l) = (ix5 b q 0 ⟨l.val / 2, by omega⟩ ⟨l.val % 2, by omega⟩ : S16x1024x1x64x2.Idx) := by
    refine Shape.reshapeEquiv_eq_of_rowMajor _ ?_
    rw [Shape.rowMajor_val_five, Shape.rowMajor_val_four]
    show (((b.val * 1024 + q.val) * 1 + 0) * 64 + l.val / 2) * 2 + l.val % 2 = ((b.val * 1024 + q.val) * 1 + 0) * 128 + l.val
    omega
  refine (congrArg _ e).trans ?_
  pointwise
  by_cases h2 : l.val % 2 = 0 <;> simp [h2]

/-- Two arrays interleaved along the last axis, read back (box corners). -/
theorem interleave2 (A B : S16x1024x2x64.Idx → EReal) (b : Fin 16) (q : Fin 1024) (z : Fin 2) (l : Fin 128)
    (h : S16x1024x2x64x2.ShapeCasts S16x1024x2x128) :
    shapeCast S16x1024x2x128 (concatenate S16x1024x2x64x2 4 [⟨S16x1024x2x64x1, broadcastInDim S16x1024x2x64x1 ![0, 1, 2, 3] bcast_S16x1024x2x64_S16x1024x2x64x1_0_1_2_3 A⟩,
        ⟨S16x1024x2x64x1, broadcastInDim S16x1024x2x64x1 ![0, 1, 2, 3] bcast_S16x1024x2x64_S16x1024x2x64x1_0_1_2_3 B⟩] concatenates_S16x1024x2x64x1_S16x1024x2x64x1_S16x1024x2x64x2_d4) h (ix4 b q z l)
      = if l.val % 2 = 0 then A (ix4 b q z ⟨l.val / 2, by omega⟩) else B (ix4 b q z ⟨l.val / 2, by omega⟩) := by
  have e : Shape.reshapeEquiv h (ix4 b q z l) = (ix5 b q z ⟨l.val / 2, by omega⟩ ⟨l.val % 2, by omega⟩ : S16x1024x2x64x2.Idx) := by
    refine Shape.reshapeEquiv_eq_of_rowMajor _ ?_
    rw [Shape.rowMajor_val_five, Shape.rowMajor_val_four]
    show (((b.val * 1024 + q.val) * 2 + z.val) * 64 + l.val / 2) * 2 + l.val % 2 = ((b.val * 1024 + q.val) * 2 + z.val) * 128 + l.val
    omega
  refine (congrArg _ e).trans ?_
  pointwise
  by_cases h2 : l.val % 2 = 0 <;> simp [h2]

/-! ## Angles -/

variable (V : Valuation τ sig (Elt Ideal))

/-- An argument's words. -/
abbrev A0 : S16x1024x2.Idx → EReal := V (Proc.devRef .tc main_arg0)
abbrev A1 : S16x1024x4.Idx → EReal := V (Proc.devRef .tc main_arg1)

theorem v7_apply (b : Fin 16) (q : Fin 1024) (l : Fin 128) :
    (res_main_v7 V : S16x1024x1x128.Idx → EReal) (ix4 b q 0 l) = A0 V (ix3 b q 0) * Ideal.ofBits .f32 (lit0 (S128.rowMajor (ix1 l))) := by
  pointwise [res_main_v7, res_main_v0]
theorem v14_apply (b : Fin 16) (q : Fin 1024) (l : Fin 128) :
    (res_main_v14 V : S16x1024x1x128.Idx → EReal) (ix4 b q 0 l) = A0 V (ix3 b q 1) * Ideal.ofBits .f32 (lit1 (S128.rowMajor (ix1 l))) := by
  pointwise [res_main_v14, res_main_v0]
theorem v83_apply (b : Fin 16) (q : Fin 1024) (z : Fin 2) (l : Fin 128) :
    (res_main_v83 V : S16x1024x2x128.Idx → EReal) (ix4 b q z l) = A1 V (ix3 b q ⟨z.val * 2, by omega⟩) * Ideal.ofBits .f32 (lit2 (S128.rowMajor (ix1 l))) := by
  pointwise [res_main_v83, res_main_v76]
theorem v90_apply (b : Fin 16) (q : Fin 1024) (z : Fin 2) (l : Fin 128) :
    (res_main_v90 V : S16x1024x2x128.Idx → EReal) (ix4 b q z l) = A1 V (ix3 b q ⟨z.val * 2 + 1, by omega⟩) * Ideal.ofBits .f32 (lit3 (S128.rowMajor (ix1 l))) := by
  pointwise [res_main_v90, res_main_v76]

/-! ## Halves of the encoding -/

/-- A table's words. -/
abbrev T0 (l : Fin 128) : EReal := Ideal.ofBits .f32 (lit0 (S128.rowMajor (ix1 l)))
abbrev T1 (l : Fin 128) : EReal := Ideal.ofBits .f32 (lit1 (S128.rowMajor (ix1 l)))
abbrev T2 (l : Fin 128) : EReal := Ideal.ofBits .f32 (lit2 (S128.rowMajor (ix1 l)))
abbrev T3 (l : Fin 128) : EReal := Ideal.ofBits .f32 (lit3 (S128.rowMajor (ix1 l)))

/-- The even channel below an even `l`, and the odd one below an odd `l`, are `l`. -/
theorem even_ch (l : Fin 128) (h : l.val % 2 = 0) (h' : 2 * (l.val / 2) < 128) : (⟨2 * (l.val / 2), h'⟩ : Fin 128) = l := Fin.ext (by show 2 * (l.val / 2) = l.val; omega)
theorem odd_ch (l : Fin 128) (h : ¬ l.val % 2 = 0) (h' : 1 + 2 * (l.val / 2) < 128) : (⟨1 + 2 * (l.val / 2), h'⟩ : Fin 128) = l := Fin.ext (by show 1 + 2 * (l.val / 2) = l.val; omega)

theorem v15_apply (b : Fin 16) (q : Fin 1024) (l : Fin 64) :
    (res_main_v15 V : S16x1024x1x64.Idx → EReal) (ix4 b q 0 l) = A0 V (ix3 b q 0) * T0 ⟨2 * l.val, by omega⟩ := by
  pointwise [res_main_v15, v7_apply]
theorem v25_apply (b : Fin 16) (q : Fin 1024) (l : Fin 64) :
    (res_main_v25 V : S16x1024x1x64.Idx → EReal) (ix4 b q 0 l) = A0 V (ix3 b q 0) * T0 ⟨1 + 2 * l.val, by omega⟩ := by
  pointwise [res_main_v25, v7_apply]
theorem v38_apply (b : Fin 16) (q : Fin 1024) (l : Fin 64) :
    (res_main_v38 V : S16x1024x1x64.Idx → EReal) (ix4 b q 0 l) = A0 V (ix3 b q 1) * T1 ⟨2 * l.val, by omega⟩ := by
  pointwise [res_main_v38, v14_apply]
theorem v48_apply (b : Fin 16) (q : Fin 1024) (l : Fin 64) :
    (res_main_v48 V : S16x1024x1x64.Idx → EReal) (ix4 b q 0 l) = A0 V (ix3 b q 1) * T1 ⟨1 + 2 * l.val, by omega⟩ := by
  pointwise [res_main_v48, v14_apply]
theorem v91_apply (b : Fin 16) (q : Fin 1024) (z : Fin 2) (l : Fin 64) :
    (res_main_v91 V : S16x1024x2x64.Idx → EReal) (ix4 b q z l) = A1 V (ix3 b q ⟨z.val * 2, by omega⟩) * T2 ⟨2 * l.val, by omega⟩ := by
  pointwise [res_main_v91, v83_apply]
theorem v101_apply (b : Fin 16) (q : Fin 1024) (z : Fin 2) (l : Fin 64) :
    (res_main_v101 V : S16x1024x2x64.Idx → EReal) (ix4 b q z l) = A1 V (ix3 b q ⟨z.val * 2, by omega⟩) * T2 ⟨1 + 2 * l.val, by omega⟩ := by
  pointwise [res_main_v101, v83_apply]
theorem v114_apply (b : Fin 16) (q : Fin 1024) (z : Fin 2) (l : Fin 64) :
    (res_main_v114 V : S16x1024x2x64.Idx → EReal) (ix4 b q z l) = A1 V (ix3 b q ⟨z.val * 2 + 1, by omega⟩) * T3 ⟨2 * l.val, by omega⟩ := by
  pointwise [res_main_v114, v90_apply]
theorem v124_apply (b : Fin 16) (q : Fin 1024) (z : Fin 2) (l : Fin 64) :
    (res_main_v124 V : S16x1024x2x64.Idx → EReal) (ix4 b q z l) = A1 V (ix3 b q ⟨z.val * 2 + 1, by omega⟩) * T3 ⟨1 + 2 * l.val, by omega⟩ := by
  pointwise [res_main_v124, v90_apply]

/-- An encoding's two branches, read at the channels of the slices, are its value at the channel. -/
theorem enc_eq (T : Fin 128 → EReal) (p : EReal) (l : ℕ) (hl : l < 128) (h0 : l % 2 < 1 → 2 * (l / 2) < 128) (h1 : ¬ l % 2 < 1 → 1 + 2 * (l / 2) < 128) :
    (if h : l % 2 < 1 then sinp (p * T ⟨2 * (l / 2), h0 h⟩) else cosp (p * T ⟨1 + 2 * (l / 2), h1 h⟩)) = enc T p ⟨l, hl⟩ := by
  unfold enc
  by_cases h : l % 2 = 0
  · have e : (⟨2 * (l / 2), h0 (by omega)⟩ : Fin 128) = ⟨l, hl⟩ := Fin.ext (by show 2 * (l / 2) = l; omega)
    rw [dif_pos (by omega), if_pos h, e]
  · have e : (⟨1 + 2 * (l / 2), h1 (by omega)⟩ : Fin 128) = ⟨l, hl⟩ := Fin.ext (by show 1 + 2 * (l / 2) = l; omega)
    rw [dif_neg (by omega), if_neg h, e]

/-- The first 128 channels encode the second coordinate, the last 128 the first. -/
def pe (Ty Tx : Fin 128 → EReal) (y x : EReal) (l : Fin 256) : EReal :=
  if h : l.val < 128 then enc Ty y ⟨l.val, h⟩ else enc Tx x ⟨l.val - 128, by omega⟩

/-- The result's first half, its first row: the points. -/
theorem pts_apply (b : Fin 16) (q : Fin 1024) (l : Fin 256) :
    (res_main_v152 V : S32x1024x3x256.Idx → EReal) (ix4 ⟨b.val, by omega⟩ q 0 l)
      = pe T1 T0 (A0 V (ix3 b q 1)) (A0 V (ix3 b q 0)) l + (V (Proc.devRef .tc main_arg5) : S1x1x256.Idx → EReal) (ix3 0 0 l)
        + (V (Proc.devRef .tc main_arg3) : S16x1024x256.Idx → EReal) (ix3 b q l) + (V (Proc.devRef .tc main_arg7) : S2x256.Idx → EReal) (ix2 1 l) := by
  unfold pe
  have e1 := fun h => enc_eq T1 (A0 V (ix3 b q 1)) l.val h (fun _ => by omega) (fun _ => by omega)
  have e0 := fun h => enc_eq T0 (A0 V (ix3 b q 0)) (l.val - 128) h (fun _ => by omega) (fun _ => by omega)
  simp only [← e1, ← e0, sinp, cosp]
  pointwise [res_main_v152, res_main_v64, res_main_v16, res_main_v26, res_main_v39, res_main_v49, v15_apply, v25_apply, v38_apply, v48_apply]

/-- The result's first half, row 1: mask row 4. -/
theorem pmask1_apply (b : Fin 16) (q : Fin 1024) (l : Fin 256) :
    (res_main_v152 V : S32x1024x3x256.Idx → EReal) (ix4 ⟨b.val, by omega⟩ q 1 l)
      = (V (Proc.devRef .tc main_arg8) : S1x6x256.Idx → EReal) (ix3 0 4 l) := by
  pointwise [res_main_v152]

/-- The result's first half, row 2: mask row 5. -/
theorem pmask2_apply (b : Fin 16) (q : Fin 1024) (l : Fin 256) :
    (res_main_v152 V : S32x1024x3x256.Idx → EReal) (ix4 ⟨b.val, by omega⟩ q 2 l)
      = (V (Proc.devRef .tc main_arg8) : S1x6x256.Idx → EReal) (ix3 0 5 l) := by
  pointwise [res_main_v152]

/-- The result's second half, its last row: mask row 0. -/
theorem bmask_apply (b : Fin 16) (q : Fin 1024) (l : Fin 256) :
    (res_main_v152 V : S32x1024x3x256.Idx → EReal) (ix4 ⟨16 + b.val, by omega⟩ q 2 l)
      = (V (Proc.devRef .tc main_arg8) : S1x6x256.Idx → EReal) (ix3 0 0 l) := by
  pointwise [res_main_v152]

/-- The result's second half, its first two rows: the boxes' corners. -/
theorem box_apply (b : Fin 16) (q : Fin 1024) (z : Fin 2) (l : Fin 256) :
    (res_main_v152 V : S32x1024x3x256.Idx → EReal) (ix4 ⟨16 + b.val, by omega⟩ q ⟨z.val, by omega⟩ l)
      = pe T3 T2 (A1 V (ix3 b q ⟨z.val * 2 + 1, by omega⟩)) (A1 V (ix3 b q ⟨z.val * 2, by omega⟩)) l + (V (Proc.devRef .tc main_arg4) : S1x2x256.Idx → EReal) (ix3 0 z l)
        + (V (Proc.devRef .tc main_arg6) : S1x1x256.Idx → EReal) (ix3 0 0 l) + (V (Proc.devRef .tc main_arg3) : S16x1024x256.Idx → EReal) (ix3 b q l) := by
  unfold pe
  have e1 := fun h => enc_eq T3 (A1 V (ix3 b q ⟨z.val * 2 + 1, by omega⟩)) l.val h (fun _ => by omega) (fun _ => by omega)
  have e0 := fun h => enc_eq T2 (A1 V (ix3 b q ⟨z.val * 2, by omega⟩)) (l.val - 128) h (fun _ => by omega) (fun _ => by omega)
  simp only [← e1, ← e0, sinp, cosp]
  pointwise [res_main_v152, res_main_v64, res_main_v92, res_main_v102, res_main_v115, res_main_v125, v91_apply, v101_apply, v114_apply, v124_apply]

end Cert.Value.Ref
end
-- ==== Proof.Table.lean ====
/-
  The kernel's table of coefficients against the reference's tables of frequencies, and a lane of the kernel's
  polynomial against the reference's sine or cosine.
-/
module

public import proofs.«01_k».proof.Proof.BlkVal
public import proofs.«01_k».proof.Proof.TileVal
public import proofs.«01_k».proof.Proof.RefVal

@[expose] public section

set_option maxRecDepth 16384

noncomputable section

namespace Cert.Value

open Idealize.ShloMosaic

/-- Row `k`, lane `l` of the table's words. -/
abbrev word (k : Fin 8) (l : Fin 128) : BitVec 32 := Cert.KernelIdeal.lit0 ⟨k.val * 128 + l.val, by omega⟩

/-- Row 0 holds the frequencies; the four tables of the reference hold the same words. -/
theorem word0_0 : ∀ l : Fin 128, Cert.ReferenceIdeal.lit0 l = word 0 l := by decide +kernel
theorem word0_1 : ∀ l : Fin 128, Cert.ReferenceIdeal.lit1 l = word 0 l := by decide +kernel
theorem word0_2 : ∀ l : Fin 128, Cert.ReferenceIdeal.lit2 l = word 0 l := by decide +kernel
theorem word0_3 : ∀ l : Fin 128, Cert.ReferenceIdeal.lit3 l = word 0 l := by decide +kernel
/-- Rows 1 to 6 hold the polynomials' coefficients: those of the sine on even lanes, of the cosine on odd ones. -/
theorem word1 : ∀ l : Fin 128, word 1 l = if l.val % 2 = 0 then 0x00000000#32 else 0x3F800000#32 := by decide +kernel
theorem word2 : ∀ l : Fin 128, word 2 l = if l.val % 2 = 0 then 0x3F800000#32 else 0x00000000#32 := by decide +kernel
theorem word3 : ∀ l : Fin 128, word 3 l = if l.val % 2 = 0 then 0x00000000#32 else 0xBF000000#32 := by decide +kernel
theorem word4 : ∀ l : Fin 128, word 4 l = if l.val % 2 = 0 then 0xBE2AAAAB#32 else 0x00000000#32 := by decide +kernel
theorem word5 : ∀ l : Fin 128, word 5 l = if l.val % 2 = 0 then 0x00000000#32 else 0x3D2AAAAB#32 := by decide +kernel
theorem word6 : ∀ l : Fin 128, word 6 l = if l.val % 2 = 0 then 0x3C088889#32 else 0x00000000#32 := by decide +kernel

/-- On an even lane only the odd coefficients are left. -/
theorem poly_odd (c1 c3 c5 a : EReal) : poly 0 c1 0 c3 0 c5 a = a * (c1 + (a * a) * (c3 + (a * a) * c5)) := by
  unfold poly; simp only [mul_zero, zero_add, add_zero]
/-- On an odd lane only the even ones. -/
theorem poly_even (c0 c2 c4 a : EReal) : poly c0 0 c2 0 c4 0 a = c0 + (a * a) * (c2 + (a * a) * c4) := by
  unfold poly; simp only [mul_zero, zero_add, add_zero]

/-- A lane of the kernel's polynomial is the reference's encoding. -/
theorem tlane_eq (t : Cert.KernelIdeal.S8x128.Idx → EReal) (ht : ∀ (k : Fin 8) (l : Fin 128), t (ix2 k l) = Ideal.ofBits .f32 (word k l))
    (T : Fin 128 → EReal) (hT : ∀ l, T l = Ideal.ofBits .f32 (word 0 l)) (p : EReal) (l : Fin 128) : tlane t p l = Ref.enc T p l := by
  unfold tlane Ref.enc
  rw [ht, ht, ht, ht, ht, ht, ht, hT, word1, word2, word3, word4, word5, word6]
  by_cases h : l.val % 2 = 0
  · simp only [if_pos h, Ideal.ofBits_zero_f32, Ideal.ofBits_one_f32, poly_odd, Ref.sinp]
  · simp only [if_neg h, Ideal.ofBits_zero_f32, Ideal.ofBits_one_f32, poly_even, Ref.cosp]

/-- Both halves. -/
theorem tboth_eq (t : Cert.KernelIdeal.S8x128.Idx → EReal) (ht : ∀ (k : Fin 8) (l : Fin 128), t (ix2 k l) = Ideal.ofBits .f32 (word k l))
    (Ty Tx : Fin 128 → EReal) (hy : ∀ l, Ty l = Ideal.ofBits .f32 (word 0 l)) (hx : ∀ l, Tx l = Ideal.ofBits .f32 (word 0 l))
    (y x : EReal) (l : Fin 256) : tboth t y x l = Ref.pe Ty Tx y x l := by
  unfold tboth Ref.pe
  by_cases h : l.val < 128
  · rw [dif_pos h, dif_pos h, tlane_eq t ht Ty hy]
  · rw [dif_neg h, dif_neg h, tlane_eq t ht Tx hx]

/-- The reference's tables by their words. -/
theorem rowMajor1 (l : Fin 128) : Cert.ReferenceIdeal.S128.rowMajor (ix1 l) = l := Fin.ext (Shape.rowMajor_val_one _)
theorem T0_eq (l : Fin 128) : Ref.T0 l = Ideal.ofBits .f32 (word 0 l) := by rw [← word0_0]; exact congrArg (fun i => Ideal.ofBits .f32 (Cert.ReferenceIdeal.lit0 i)) (rowMajor1 l)
theorem T1_eq (l : Fin 128) : Ref.T1 l = Ideal.ofBits .f32 (word 0 l) := by rw [← word0_1]; exact congrArg (fun i => Ideal.ofBits .f32 (Cert.ReferenceIdeal.lit1 i)) (rowMajor1 l)
theorem T2_eq (l : Fin 128) : Ref.T2 l = Ideal.ofBits .f32 (word 0 l) := by rw [← word0_2]; exact congrArg (fun i => Ideal.ofBits .f32 (Cert.ReferenceIdeal.lit2 i)) (rowMajor1 l)
theorem T3_eq (l : Fin 128) : Ref.T3 l = Ideal.ofBits .f32 (word 0 l) := by rw [← word0_3]; exact congrArg (fun i => Ideal.ofBits .f32 (Cert.ReferenceIdeal.lit3 i)) (rowMajor1 l)

section Staged
open Cert.KernelIdeal Cert.KernelIdeal.Gen
variable (m : (ℓ : Loc nD τ sig) → Buf (Elt Ideal) ℓ) (c : Dev nD)
/-- The staged table holds the printed words. -/
theorem table_word (t : Fin cfg0.N) (k : Fin 8) (l : Fin 128) : (iblk m c 3 t : S8x128.Idx → EReal) (ix2 k l) = Ideal.ofBits .f32 (word k l) := by
  rw [blk_3, V_cst]
  have e : S8x128.rowMajor (ix2 k l : S8x128.Idx) = (⟨k.val * 128 + l.val, by omega⟩ : Fin 1024) := Fin.ext (Shape.rowMajor_val_two _)
  exact congrArg (fun i => Ideal.ofBits .f32 (lit0 i)) e
end Staged

end Cert.Value
end
-- ==== Proof.Match.lean ====
/-
  The idealized kernel's result is the reference's, index by index.
-/
module

public import proofs.«01_k».proof.Proof.IFrame
public import proofs.«01_k».proof.Proof.Table

@[expose] public section

set_option maxRecDepth 16384

noncomputable section

namespace Cert.Value

open Cert.KernelIdeal Cert.KernelIdeal.Gen Cert.KernelIdeal.Hand
open Idealize.ShloMosaic Idealize.ShloMosaic.TcCoe

/-- The results' first axis split in two: index `16 s + b` of the flat array is `(s, b)` of the kernel's. -/
theorem flat_apply (f : S2x16x1024x3x256.Idx → Elt Ideal .f32) (s : Fin 2) (b : Fin 16) (q : Fin 1024) (r : Fin 3) (l : Fin 256) (j : Fin 32)
    (hj : j.val = s.val * 16 + b.val) : flat (F := Ideal) f (ix4 j q r l) = f (ix5 s b q r l) := by
  unfold flat
  refine congrArg f (Shape.reshapeEquiv_eq_of_rowMajor _ ?_)
  rw [Shape.rowMajor_val_five, Shape.rowMajor_val_four]
  show (((s.val * 16 + b.val) * 1024 + q.val) * 3 + r.val) * 256 + l.val = ((j.val * 1024 + q.val) * 3 + r.val) * 256 + l.val
  rw [hj]

variable (m : (ℓ : Loc nD τ sig) → Buf (Elt Ideal) ℓ) (c : Dev nD)

/-- The step that writes row `q` of image `b`. -/
abbrev stp (b : Fin 16) (q : Fin 1024) : Fin cfg0.N := ⟨2 * b.val + q.val / 512, lt_of_lt_of_eq (by omega : _ < 32) (by decide)⟩
/-- The row's place in the step's block. -/
abbrev rw_ (q : Fin 1024) : Fin 512 := ⟨q.val % 512, Nat.mod_lt _ (by decide)⟩

theorem gout_apply (s : Fin 2) (b : Fin 16) (q : Fin 1024) (r : Fin 3) (l : Fin 256) :
    gout m c (ix5 s b q r l) = tile (iblk m c 0 (stp b q)) (iblk m c 1 (stp b q)) (iblk m c 2 (stp b q)) (iblk m c 3 (stp b q)) (iblk m c 4 (stp b q)) (ix4 s (rw_ q) r l) := by
  rw [ix4_eq_valueIdx]; rfl

/-- The kernel's result at an index. -/
theorem out_apply (s : Fin 2) (b : Fin 16) (q : Fin 1024) (r : Fin 3) (l : Fin 256) (j : Fin 32) (hj : j.val = s.val * 16 + b.val) :
    flat (F := Ideal) (gout m c) (ix4 j q r l) = tile (iblk m c 0 (stp b q)) (iblk m c 1 (stp b q)) (iblk m c 2 (stp b q)) (iblk m c 3 (stp b q)) (iblk m c 4 (stp b q)) (ix4 s (rw_ q) r l) :=
  (flat_apply _ s b q r l j hj).trans (gout_apply m c s b q r l)

theorem stp_div (b : Fin 16) (q : Fin 1024) : b.val = (stp b q).val / 2 := by show b.val = (2 * b.val + q.val / 512) / 2; omega
theorem stp_mod (b : Fin 16) (q : Fin 1024) : q.val = (stp b q).val % 2 * 512 + (rw_ q).val := by
  show q.val = (2 * b.val + q.val / 512) % 2 * 512 + q.val % 512; omega

/-- The kernel's points. -/
theorem k_pts (b : Fin 16) (q : Fin 1024) (l : Fin 256) :
    flat (F := Ideal) (gout m c) (ix4 ⟨b.val, by omega⟩ q 0 l)
      = Ref.pe Ref.T1 Ref.T0 ((m (c, Proc.devRef .tc main_arg0) : S16x1024x2.Idx → EReal) (ix3 b q 1)) ((m (c, Proc.devRef .tc main_arg0) : S16x1024x2.Idx → EReal) (ix3 b q 0)) l
        + (B3 m c (ix3 b q l) + (B5 m c (ix3 0 0 l) + B7 m c (ix2 1 l))) := by
  rw [out_apply m c 0 b q 0 l _ (by show b.val = 0 * 16 + b.val; omega), tile_pts, tboth_eq _ (table_word m c _) _ _ T1_eq T0_eq,
    blk_0 m c _ b q _ _ (stp_div b q) (stp_mod b q), blk_0 m c _ b q _ _ (stp_div b q) (stp_mod b q), blk_2 m c _ b q _ _ (stp_div b q) (stp_mod b q), blk_4, row_0]
/-- The kernel's first corners. -/
theorem k_box0 (b : Fin 16) (q : Fin 1024) (l : Fin 256) :
    flat (F := Ideal) (gout m c) (ix4 ⟨16 + b.val, by omega⟩ q 0 l)
      = Ref.pe Ref.T3 Ref.T2 ((m (c, Proc.devRef .tc main_arg1) : S16x1024x4.Idx → EReal) (ix3 b q 1)) ((m (c, Proc.devRef .tc main_arg1) : S16x1024x4.Idx → EReal) (ix3 b q 0)) l
        + (B3 m c (ix3 b q l) + (B4 m c (ix3 0 0 l) + B6 m c (ix3 0 0 l))) := by
  rw [out_apply m c 1 b q 0 l _ (by show 16 + b.val = 1 * 16 + b.val; omega), tile_box0, tboth_eq _ (table_word m c _) _ _ T3_eq T2_eq,
    blk_1 m c _ b q _ _ (stp_div b q) (stp_mod b q), blk_1 m c _ b q _ _ (stp_div b q) (stp_mod b q), blk_2 m c _ b q _ _ (stp_div b q) (stp_mod b q), blk_4, row_1]
/-- The kernel's second corners. -/
theorem k_box1 (b : Fin 16) (q : Fin 1024) (l : Fin 256) :
    flat (F := Ideal) (gout m c) (ix4 ⟨16 + b.val, by omega⟩ q 1 l)
      = Ref.pe Ref.T3 Ref.T2 ((m (c, Proc.devRef .tc main_arg1) : S16x1024x4.Idx → EReal) (ix3 b q 3)) ((m (c, Proc.devRef .tc main_arg1) : S16x1024x4.Idx → EReal) (ix3 b q 2)) l
        + (B3 m c (ix3 b q l) + (B4 m c (ix3 0 1 l) + B6 m c (ix3 0 0 l))) := by
  rw [out_apply m c 1 b q 1 l _ (by show 16 + b.val = 1 * 16 + b.val; omega), tile_box1, tboth_eq _ (table_word m c _) _ _ T3_eq T2_eq,
    blk_1 m c _ b q _ _ (stp_div b q) (stp_mod b q), blk_1 m c _ b q _ _ (stp_div b q) (stp_mod b q), blk_2 m c _ b q _ _ (stp_div b q) (stp_mod b q), blk_4, row_2]
/-- The kernel's mask rows. -/
theorem k_pmask1 (b : Fin 16) (q : Fin 1024) (l : Fin 256) : flat (F := Ideal) (gout m c) (ix4 ⟨b.val, by omega⟩ q 1 l) = B8 m c (ix3 0 4 l) := by
  rw [out_apply m c 0 b q 1 l _ (by show b.val = 0 * 16 + b.val; omega), tile_pmask1, blk_4, row_3]
theorem k_pmask2 (b : Fin 16) (q : Fin 1024) (l : Fin 256) : flat (F := Ideal) (gout m c) (ix4 ⟨b.val, by omega⟩ q 2 l) = B8 m c (ix3 0 5 l) := by
  rw [out_apply m c 0 b q 2 l _ (by show b.val = 0 * 16 + b.val; omega), tile_pmask2, blk_4, row_4]
theorem k_bmask (b : Fin 16) (q : Fin 1024) (l : Fin 256) : flat (F := Ideal) (gout m c) (ix4 ⟨16 + b.val, by omega⟩ q 2 l) = B8 m c (ix3 0 0 l) := by
  rw [out_apply m c 1 b q 2 l _ (by show 16 + b.val = 1 * 16 + b.val; omega), tile_bmask, blk_4, row_5]

/-- The first axis' two halves. -/
theorem low (j : Fin 32) (h : j.val < 16) : ∃ b : Fin 16, j = ⟨b.val, Nat.lt_trans b.isLt (by decide)⟩ := ⟨⟨j.val, h⟩, rfl⟩
theorem high (j : Fin 32) (h : ¬ j.val < 16) : ∃ b : Fin 16, j = ⟨16 + b.val, Nat.add_lt_add_left b.isLt 16⟩ :=
  ⟨⟨j.val - 16, by omega⟩, Fin.ext (by show j.val = 16 + (j.val - 16); omega)⟩

/-- The results agree at every index, when the arguments do. -/
theorem value_eq (V : Valuation Cert.ReferenceIdeal.τ Cert.ReferenceIdeal.sig (Elt Ideal))
    (h0 : (V (Proc.devRef .tc Cert.ReferenceIdeal.main_arg0) : S16x1024x2.Idx → EReal) = m (c, Proc.devRef .tc main_arg0))
    (h1 : (V (Proc.devRef .tc Cert.ReferenceIdeal.main_arg1) : S16x1024x4.Idx → EReal) = m (c, Proc.devRef .tc main_arg1))
    (h3 : (V (Proc.devRef .tc Cert.ReferenceIdeal.main_arg3) : S16x1024x256.Idx → EReal) = B3 m c)
    (h4 : (V (Proc.devRef .tc Cert.ReferenceIdeal.main_arg4) : S1x2x256.Idx → EReal) = B4 m c)
    (h5 : (V (Proc.devRef .tc Cert.ReferenceIdeal.main_arg5) : S1x1x256.Idx → EReal) = B5 m c)
    (h6 : (V (Proc.devRef .tc Cert.ReferenceIdeal.main_arg6) : S1x1x256.Idx → EReal) = B6 m c)
    (h7 : (V (Proc.devRef .tc Cert.ReferenceIdeal.main_arg7) : S2x256.Idx → EReal) = B7 m c)
    (h8 : (V (Proc.devRef .tc Cert.ReferenceIdeal.main_arg8) : S1x6x256.Idx → EReal) = B8 m c) :
    flat (F := Ideal) (gout m c) = (Cert.ReferenceIdeal.Value.res_main_v152 V : S32x1024x3x256.Idx → EReal) := by
  have at_ (j : Fin 32) (q : Fin 1024) (r : Fin 3) (l : Fin 256) :
      flat (F := Ideal) (gout m c) (ix4 j q r l) = (Cert.ReferenceIdeal.Value.res_main_v152 V : S32x1024x3x256.Idx → EReal) (ix4 j q r l) := by
    by_cases hj : j.val < 16
    · obtain ⟨b, rfl⟩ := low j hj
      match r with
      | 0 =>
        rw [k_pts, Ref.pts_apply, Ref.A0, h0, h3, h5, h7]
        ac_rfl
      | 1 => rw [k_pmask1, Ref.pmask1_apply, h8]
      | 2 => rw [k_pmask2, Ref.pmask2_apply, h8]
    · obtain ⟨b, rfl⟩ := high j hj
      match r with
      | 0 =>
        refine (k_box0 m c b q l).trans (Eq.trans ?_ (Ref.box_apply V b q 0 l).symm)
        rw [Ref.A1, h1, h3, h4, h6]
        ac_rfl
      | 1 =>
        refine (k_box1 m c b q l).trans (Eq.trans ?_ (Ref.box_apply V b q 1 l).symm)
        rw [Ref.A1, h1, h3, h4, h6]
        ac_rfl
      | 2 => rw [k_bmask, Ref.bmask_apply, h8]
  funext i
  rw [eq_ix4 i]
  exact at_ ..

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.IFrame
public import proofs.«01_k».proof.Proof.Match
public import Idealize.ShloMosaic.Adequacy
public import Idealize.ShloMosaic.Init

@[expose] public section

noncomputable section

namespace Cert.Proof

open Idealize.ShloMosaic Idealize.SL.Sem Cert.Kernel

/-- The kernel runs, its arguments end unchanged, its counters end at zero. -/
theorem quiescent_Kernel : quiescent_Kernel (hKernel := Cert.Kernel.Gen.facts) := fun m g _ =>
  (θ_run _ _ _).mono (fun _ h => ⟨fun c => (h.1 c).2.2, h.2⟩) (Cert.Kernel.Hand.run (F := Bits) m g)

/-- The same of the kernel on extended reals. -/
theorem quiescent_KernelIdeal : quiescent_KernelIdeal (hKernelIdeal := Cert.KernelIdeal.Gen.facts) := fun m g _ =>
  (θ_run _ _ _).mono (fun _ h => ⟨fun c => (h.1 c).2.2, h.2⟩) (Cert.KernelIdeal.Hand.run (F := Ideal) m g)

/-- The same of the reference, which has no semaphores. -/
theorem quiescent_ReferenceIdeal : quiescent_ReferenceIdeal (hReferenceIdeal := Cert.ReferenceIdeal.Gen.facts) := fun m g _ =>
  (θ_run _ _ _).mono (fun r h => ⟨fun c => (h c).2.2, Idealize.ShloMosaic.sem_eq_zero_of_no_sems (by decide) r.2⟩)
    (Cert.ReferenceIdeal.Value.run (F := Ideal) m g)

/-- Kernel and reference end with the same two results. -/
theorem algebraic : algebraic_KernelIdeal_ReferenceIdeal (hKernelIdeal := Cert.KernelIdeal.Gen.facts) (hReferenceIdeal := Cert.ReferenceIdeal.Gen.facts) := by
  intro m g m' g' _ hargs
  have key (c : Dev Cert.KernelIdeal.nD) := Cert.Value.value_eq m c (StableHlo.launchContents m' c) (hargs c).1 (hargs c).2.1 (hargs c).2.2.2.1
    (hargs c).2.2.2.2.1 (hargs c).2.2.2.2.2.1 (hargs c).2.2.2.2.2.2.1 (hargs c).2.2.2.2.2.2.2.1 (hargs c).2.2.2.2.2.2.2.2
  refine ⟨fun c => Cert.KernelIdeal.Hand.flat (F := Ideal) (Cert.KernelIdeal.Hand.gout m c), fun c => Cert.KernelIdeal.Hand.flat (F := Ideal) (Cert.KernelIdeal.Hand.gout m c),
    (θ_run _ _ _).mono (fun _ h c => h.1 c) (Cert.KernelIdeal.Hand.run (F := Ideal) m g),
    (θ_run _ _ _).mono (fun _ h c => ⟨(h c).1.trans (key c).symm, (h c).2.1.trans (key c).symm, (h c).2.2⟩) (Cert.ReferenceIdeal.Value.run (F := Ideal) m' g')⟩

theorem claim : Cert.Claim := ⟨Cert.Kernel.Gen.facts, Cert.KernelIdeal.Gen.facts, Cert.ReferenceIdeal.Gen.facts,
  quiescent_Kernel, quiescent_KernelIdeal, quiescent_ReferenceIdeal, trivial, algebraic⟩

end Cert.Proof

end
